-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_band_tables [hPre_band_tables : Cert.Pre_band_tables.Facts] (m : (ℓ : Loc Cert.KernelIdeal.nD Cert.KernelIdeal.τ Cert.KernelIdeal.sig) → Buf (Elt Ideal) ℓ) : Prop :=
  ∀ c : Dev Cert.KernelIdeal.nD,
    (Cert.Pre_band_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_band_tables [hPre_band_tables : Cert.Pre_band_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_band_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_band_tables [hKernelIdeal : Cert.KernelIdeal.Facts] [hPre_band_tables : Cert.Pre_band_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_band_tables [hReferenceIdeal : Cert.ReferenceIdeal.Facts] [hPre_band_tables : Cert.Pre_band_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_band_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_band_tables [hKernelIdeal : Cert.KernelIdeal.Facts] [hReferenceIdeal : Cert.ReferenceIdeal.Facts] [hPre_band_tables : Cert.Pre_band_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_band_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_band_tables : Cert.Pre_band_tables.Facts),
    quiescent_Kernel (hKernel := hKernel)
    ∧ quiescent_KernelIdeal (hKernelIdeal := hKernelIdeal)
    ∧ quiescent_KernelIdeal_pre_band_tables (hKernelIdeal := hKernelIdeal) (hPre_band_tables := hPre_band_tables)
    ∧ quiescent_ReferenceIdeal (hReferenceIdeal := hReferenceIdeal)
    ∧ quiescent_ReferenceIdeal_pre_band_tables (hReferenceIdeal := hReferenceIdeal) (hPre_band_tables := hPre_band_tables)
    ∧ preserves_Kernel_KernelIdeal
    ∧ algebraic_KernelIdeal_ReferenceIdeal_pre_band_tables (hKernelIdeal := hKernelIdeal) (hReferenceIdeal := hReferenceIdeal) (hPre_band_tables := hPre_band_tables)
-- ==== Pre_band_tables.lean ====
abbrev S8x2x1024x1025 : Shape := ⟨4, ![8, 2, 1024, 1025]⟩
abbrev S64x212x32 : Shape := ⟨3, ![64, 212, 32]⟩
abbrev S64x32 : Shape := ⟨2, ![64, 32]⟩
abbrev S64x106 : Shape := ⟨2, ![64, 106]⟩

class Facts : Prop where

variable [Facts]

noncomputable abbrev lit0t0_0 (i : Nat) : BitVec 32 := match i % 128 with
  | 0 => 0x3F800000#32
  | 1 => 0x3F7379D2#32
  | 2 => 0x3ED4DD3E#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x3D4862DB#32
  | 107 => 0x3F159161#32
  | 108 => 0x3F63024D#32
  | 109 => 0x3EC270E9#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_1 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x3DE7ED99#32
  | 85 => 0x3F1EC78B#32
  | 86 => 0x3F612801#32
  | 87 => 0x3ECC7A5F#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_2 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x3DF6BFF7#32
  | 63 => 0x3F19C2D1#32
  | 64 => 0x3F6C6A9E#32
  | 65 => 0x3EF00365#32
  | 66 => 0x3C6631BC#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_3 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x3D9CAB0F#32
  | 41 => 0x3F07FE4D#32
  | 42 => 0x3F7C6739#32
  | 43 => 0x3F1528D0#32
  | 44 => 0x3E1BA664#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_4 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x3ED5AE5F#32
  | 19 => 0x3F591667#32
  | 20 => 0x3F3C712E#32
  | 21 => 0x3EA81048#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x3E871DA4#32
  | 125 => 0x3F2BF7DC#32
  | 126 => 0x3F6CB34B#32
  | 127 => 0x3F09D155#32
  | _ => 0#32

noncomputable abbrev lit0t0_5 (i : Nat) : BitVec 32 := match i % 128 with
  | 0 => 0x3E1BBD79#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x3D9A65A6#32
  | 103 => 0x3EEC5D57#32
  | 104 => 0x3F5910A2#32
  | 105 => 0x3F4739E0#32
  | 106 => 0x3ED32824#32
  | 107 => 0x3D3EE443#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_6 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x3E63187F#32
  | 81 => 0x3F166BEE#32
  | 82 => 0x3F7411BC#32
  | 83 => 0x3F329BF9#32
  | 84 => 0x3EB3D6C1#32
  | 85 => 0x3B9D63C9#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_7 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x3E9AC80E#32
  | 59 => 0x3F2614A0#32
  | 60 => 0x3F7EC538#32
  | 61 => 0x3F2D2B88#32
  | 62 => 0x3EB259E7#32
  | 63 => 0x3CA5CBCF#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_8 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x3EA5A8EF#32
  | 37 => 0x3F26D30D#32
  | 38 => 0x3F7AD1A2#32
  | 39 => 0x3F355BF2#32
  | 40 => 0x3ECB9F7C#32
  | 41 => 0x3DB21C4E#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_9 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x3E95481C#32
  | 15 => 0x3F1A3042#32
  | 16 => 0x3F69BC76#32
  | 17 => 0x3F49BFB4#32
  | 18 => 0x3EFCD338#32
  | 19 => 0x3E4C4E12#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x3E590130#32
  | 121 => 0x3F019664#32
  | 122 => 0x3F4CEC7C#32
  | 123 => 0x3F690639#32
  | 124 => 0x3F21AD2A#32
  | 125 => 0x3EB4A835#32
  | 126 => 0x3D97D85B#32
  | 127 => 0x00000000#32
  | _ => 0#32

noncomputable abbrev lit0t0_10 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x3DB7CE3B#32
  | 99 => 0x3EBCA5AD#32
  | 100 => 0x3F25ABE6#32
  | 101 => 0x3F6D04F5#32
  | 102 => 0x3F4E67B8#32
  | 103 => 0x3F0AD5A4#32
  | 104 => 0x3E8E871F#32
  | 105 => 0x3C6C5EB5#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_11 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x3E46611F#32
  | 77 => 0x3EEA54B8#32
  | 78 => 0x3F38BC71#32
  | 79 => 0x3F7C4E85#32
  | 80 => 0x3F438121#32
  | 81 => 0x3F0382D6#32
  | 82 => 0x3E870915#32
  | 83 => 0x3C618FD9#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_12 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x3E71FB7A#32
  | 55 => 0x3EF8FA54#32
  | 56 => 0x3F3C7B75#32
  | 57 => 0x3F7C79C1#32
  | 58 => 0x3F46BB7D#32
  | 59 => 0x3F0A2080#32
  | 60 => 0x3E9B0B03#32
  | 61 => 0x3D87541E#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_13 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x3E65120B#32
  | 33 => 0x3EEBBF01#32
  | 34 => 0x3F327A7E#32
  | 35 => 0x3F6F157C#32
  | 36 => 0x3F569FA5#32
  | 37 => 0x3F1D3A0A#32
  | 38 => 0x3EC7A8DF#32
  | 39 => 0x3E29BB52#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_14 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x3E25816B#32
  | 11 => 0x3EC58BEB#32
  | 12 => 0x3F1C2B91#32
  | 13 => 0x3F55912B#32
  | 14 => 0x3F71D408#32
  | 15 => 0x3F3B7854#32
  | 16 => 0x3F051CA0#32
  | 17 => 0x3E9D81D7#32
  | 18 => 0x3DC329B8#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x3D62BF7E#32
  | 117 => 0x3E890F58#32
  | 118 => 0x3EF5C6C1#32
  | 119 => 0x3F313F15#32
  | 120 => 0x3F679AC9#32
  | 121 => 0x3F639F99#32
  | 122 => 0x3F30249C#32
  | 123 => 0x3EF95340#32
  | 124 => 0x3E925D47#32
  | 125 => 0x3DAD9D36#32
  | 126 => 0x00000000#32
  | 127 => 0x00000000#32
  | _ => 0#32

noncomputable abbrev lit0t0_15 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x3DE30338#32
  | 95 => 0x3E9FB6C7#32
  | 96 => 0x3F035660#32
  | 97 => 0x3F36D15D#32
  | 98 => 0x3F6A4C59#32
  | 99 => 0x3F63CC41#32
  | 100 => 0x3F330AFC#32
  | 101 => 0x3F0249B6#32
  | 102 => 0x3EA310E2#32
  | 103 => 0x3E031CAD#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_16 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x3DE19DF5#32
  | 73 => 0x3E99EA08#32
  | 74 => 0x3EFB6C93#32
  | 75 => 0x3F2E778F#32
  | 76 => 0x3F5F38D5#32
  | 77 => 0x3F70DE6F#32
  | 78 => 0x3F42B1F0#32
  | 79 => 0x3F148572#32
  | 80 => 0x3ECCB1E6#32
  | 81 => 0x3E60B1D1#32
  | 82 => 0x3D1FFF59#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_17 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x3D721911#32
  | 51 => 0x3E75383F#32
  | 52 => 0x3ED6F51D#32
  | 53 => 0x3F19A70D#32
  | 54 => 0x3F47D38C#32
  | 55 => 0x3F76000A#32
  | 56 => 0x3F5DBDBB#32
  | 57 => 0x3F320308#32
  | 58 => 0x3F064854#32
  | 59 => 0x3EB51B42#32
  | 60 => 0x3E3B4BB7#32
  | 61 => 0x3C460E98#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_18 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x3E090914#32
  | 29 => 0x3E9BF9F1#32
  | 30 => 0x3EF36F57#32
  | 31 => 0x3F25725F#32
  | 32 => 0x3F512D12#32
  | 33 => 0x3F7CE7C6#32
  | 34 => 0x3F598440#32
  | 35 => 0x3F301A37#32
  | 36 => 0x3F06B02D#32
  | 37 => 0x3EBA8C47#32
  | 38 => 0x3E4F7069#32
  | 39 => 0x3D27210F#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_19 (i : Nat) : BitVec 32 := match i % 128 with
  | 0 => 0x00000000#32
  | 1 => 0x00000000#32
  | 2 => 0x00000000#32
  | 3 => 0x00000000#32
  | 4 => 0x00000000#32
  | 5 => 0x00000000#32
  | 6 => 0x3E19EF00#32
  | 7 => 0x3E9FCB93#32
  | 8 => 0x3EF29FA6#32
  | 9 => 0x3F22B9DC#32
  | 10 => 0x3F4C23E6#32
  | 11 => 0x3F758DEF#32
  | 12 => 0x3F62ABBF#32
  | 13 => 0x3F3B7300#32
  | 14 => 0x3F143A40#32
  | 15 => 0x3EDA0300#32
  | 16 => 0x3E8B9180#32
  | 17 => 0x3DF48003#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x3DEAA204#32
  | 113 => 0x3E891A01#32
  | 114 => 0x3ED78B80#32
  | 115 => 0x3F12FE80#32
  | 116 => 0x3F3A3740#32
  | 117 => 0x3F617000#32
  | 118 => 0x3F77CC9C#32
  | 119 => 0x3F52A76F#32
  | 120 => 0x3F2D8241#32
  | 121 => 0x3F085D14#32
  | 122 => 0x3EC66FCD#32
  | 123 => 0x3E784AE4#32
  | 124 => 0x3DC76C5E#32
  | 125 => 0x00000000#32
  | 126 => 0x00000000#32
  | 127 => 0x00000000#32
  | _ => 0#32

noncomputable abbrev lit0t0_20 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x3D03363E#32
  | 91 => 0x3E356245#32
  | 92 => 0x3EA4FB7D#32
  | 93 => 0x3EEF45D8#32
  | 94 => 0x3F1CC819#32
  | 95 => 0x3F41ED47#32
  | 96 => 0x3F671274#32
  | 97 => 0x3F746DF3#32
  | 98 => 0x3F514034#32
  | 99 => 0x3F2E1274#32
  | 100 => 0x3F0AE4B5#32
  | 101 => 0x3ECF6DEB#32
  | 102 => 0x3E89126C#32
  | 103 => 0x3E056DDB#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_21 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x3D3920CE#32
  | 69 => 0x3E3AFF31#32
  | 70 => 0x3EA3DB17#32
  | 71 => 0x3EEA3696#32
  | 72 => 0x3F18490A#32
  | 73 => 0x3F3B76CA#32
  | 74 => 0x3F5EA489#32
  | 75 => 0x3F7E4667#32
  | 76 => 0x3F5CF56F#32
  | 77 => 0x3F3BA476#32
  | 78 => 0x3F1A537E#32
  | 79 => 0x3EF2050B#32
  | 80 => 0x3EAF631B#32
  | 81 => 0x3E598254#32
  | 82 => 0x3DA87CE5#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_22 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x3BDCCC7E#32
  | 47 => 0x3E0C2A45#32
  | 48 => 0x3E88B713#32
  | 49 => 0x3ECB5904#32
  | 50 => 0x3F06FD7A#32
  | 51 => 0x3F284E73#32
  | 52 => 0x3F499F6B#32
  | 53 => 0x3F6AF063#32
  | 54 => 0x3F7464BD#32
  | 55 => 0x3F54D74E#32
  | 56 => 0x3F3549DF#32
  | 57 => 0x3F15BC70#32
  | 58 => 0x3EEC5E01#32
  | 59 => 0x3EAD4323#32
  | 60 => 0x3E5C5089#32
  | 61 => 0x3DBC359A#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_23 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x3D39B432#32
  | 25 => 0x3E2CA2C9#32
  | 26 => 0x3E956C43#32
  | 27 => 0x3ED48721#32
  | 28 => 0x3F09D0FF#32
  | 29 => 0x3F295E6F#32
  | 30 => 0x3F48EBDE#32
  | 31 => 0x3F68794D#32
  | 32 => 0x3F78660C#32
  | 33 => 0x3F5A843F#32
  | 34 => 0x3F3CA271#32
  | 35 => 0x3F1EC0A3#32
  | 36 => 0x3F00DED6#32
  | 37 => 0x3EC5FA11#32
  | 38 => 0x3E8A3676#32
  | 39 => 0x3E1CE5B6#32
  | 40 => 0x3D1579FF#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_24 (i : Nat) : BitVec 32 := match i % 128 with
  | 0 => 0x00000000#32
  | 1 => 0x00000000#32
  | 2 => 0x3CF33E7F#32
  | 3 => 0x3E15EF06#32
  | 4 => 0x3E86BB1E#32
  | 5 => 0x3EC27EB9#32
  | 6 => 0x3EFE4254#32
  | 7 => 0x3F1D02F8#32
  | 8 => 0x3F3AE4C5#32
  | 9 => 0x3F58C693#32
  | 10 => 0x3F76A860#32
  | 11 => 0x3F6C8C33#32
  | 12 => 0x3F503F63#32
  | 13 => 0x3F33F293#32
  | 14 => 0x3F17A5C4#32
  | 15 => 0x3EF6B1E8#32
  | 16 => 0x3EBE1849#32
  | 17 => 0x3E857EAA#32
  | 18 => 0x3E19CA15#32
  | 19 => 0x3D225B5B#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x3D9B9E6B#32
  | 109 => 0x3E3F0274#32
  | 110 => 0x3E981AD9#32
  | 111 => 0x3ED0B478#32
  | 112 => 0x3F04A70C#32
  | 113 => 0x3F20F3DB#32
  | 114 => 0x3F3D40AB#32
  | 115 => 0x3F598D7B#32
  | 116 => 0x3F75DA4A#32
  | 117 => 0x3F6ECEEC#32
  | 118 => 0x3F5401AA#32
  | 119 => 0x3F393467#32
  | 120 => 0x3F1E6725#32
  | 121 => 0x3F0399E2#32
  | 122 => 0x3ED1993F#32
  | 123 => 0x3E9BFEBA#32
  | 124 => 0x3E4CC869#32
  | 125 => 0x3DC326BD#32
  | 126 => 0x00000000#32
  | 127 => 0x00000000#32
  | _ => 0#32

noncomputable abbrev lit0t0_25 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x3D89889D#32
  | 87 => 0x3E2FF959#32
  | 88 => 0x3E8D9732#32
  | 89 => 0x3EC331B7#32
  | 90 => 0x3EF8CC3C#32
  | 91 => 0x3F173361#32
  | 92 => 0x3F3200A3#32
  | 93 => 0x3F4CCDE6#32
  | 94 => 0x3F679B28#32
  | 95 => 0x3F7DB837#32
  | 96 => 0x3F645634#32
  | 97 => 0x3F4AF430#32
  | 98 => 0x3F31922C#32
  | 99 => 0x3F183028#32
  | 100 => 0x3EFD9C49#32
  | 101 => 0x3ECAD841#32
  | 102 => 0x3E981439#32
  | 103 => 0x3E4AA063#32
  | 104 => 0x3DCA30A8#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_26 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x3C11F227#32
  | 65 => 0x3DDD4E63#32
  | 66 => 0x3E542F41#32
  | 67 => 0x3E9CDBA8#32
  | 68 => 0x3ECF9FB0#32
  | 69 => 0x3F0131DC#32
  | 70 => 0x3F1A93E0#32
  | 71 => 0x3F33F5E3#32
  | 72 => 0x3F4D57E7#32
  | 73 => 0x3F66B9EB#32
  | 74 => 0x3F7FE58C#32
  | 75 => 0x3F67DB8C#32
  | 76 => 0x3F4FD18B#32
  | 77 => 0x3F37C78B#32
  | 78 => 0x3F1FBD8B#32
  | 79 => 0x3F07B38B#32
  | 80 => 0x3EDF5316#32
  | 81 => 0x3EAF3F16#32
  | 82 => 0x3E7E562B#32
  | 83 => 0x3E1E2E2A#32
  | 84 => 0x3D7818A7#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_27 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x39D3A202#32
  | 43 => 0x3DC123A3#32
  | 44 => 0x3E40B9D2#32
  | 45 => 0x3E9070E9#32
  | 46 => 0x3EC084EA#32
  | 47 => 0x3EF098EA#32
  | 48 => 0x3F105675#32
  | 49 => 0x3F286075#32
  | 50 => 0x3F406A75#32
  | 51 => 0x3F587475#32
  | 52 => 0x3F707E76#32
  | 53 => 0x3F77EB30#32
  | 54 => 0x3F6126FD#32
  | 55 => 0x3F4A62CB#32
  | 56 => 0x3F339E98#32
  | 57 => 0x3F1CDA65#32
  | 58 => 0x3F061632#32
  | 59 => 0x3EDEA3FE#32
  | 60 => 0x3EB11B99#32
  | 61 => 0x3E839333#32
  | 62 => 0x3E2C159A#32
  | 63 => 0x3DA2099D#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_28 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x3D014CFA#32
  | 21 => 0x3DF6C814#32
  | 22 => 0x3E5674D6#32
  | 23 => 0x3E98C2D1#32
  | 24 => 0x3EC64B36#32
  | 25 => 0x3EF3D39C#32
  | 26 => 0x3F10AE01#32
  | 27 => 0x3F277234#32
  | 28 => 0x3F3E3667#32
  | 29 => 0x3F54FA99#32
  | 30 => 0x3F6BBECC#32
  | 31 => 0x3F7D9F0B#32
  | 32 => 0x3F680F66#32
  | 33 => 0x3F527FC1#32
  | 34 => 0x3F3CF01C#32
  | 35 => 0x3F276077#32
  | 36 => 0x3F11D0D1#32
  | 37 => 0x3EF88258#32
  | 38 => 0x3ECD630E#32
  | 39 => 0x3EA243C3#32
  | 40 => 0x3E6E48F2#32
  | 41 => 0x3E180A5D#32
  | 42 => 0x3D839791#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x3C183D2A#32
  | 127 => 0x3DBF84CF#32
  | _ => 0#32

noncomputable abbrev lit0t0_29 (i : Nat) : BitVec 32 := match i % 128 with
  | 0 => 0x3E3600FC#32
  | 1 => 0x3E861FC9#32
  | 2 => 0x3EB13F13#32
  | 3 => 0x3EDC5E5D#32
  | 4 => 0x3F03BED4#32
  | 5 => 0x3F194E79#32
  | 6 => 0x3F2EDE1E#32
  | 7 => 0x3F446DC3#32
  | 8 => 0x3F59FD69#32
  | 9 => 0x3F6F8D0E#32
  | 10 => 0x3F7B2896#32
  | 11 => 0x3F66BD28#32
  | 12 => 0x3F5251BB#32
  | 13 => 0x3F3DE64E#32
  | 14 => 0x3F297AE0#32
  | 15 => 0x3F150F73#32
  | 16 => 0x3F00A406#32
  | 17 => 0x3ED87130#32
  | 18 => 0x3EAF9A56#32
  | 19 => 0x3E86C37B#32
  | 20 => 0x3E3BD940#32
  | 21 => 0x3DD45715#32
  | 22 => 0x3CC3EEAA#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x3C9AED49#32
  | 105 => 0x3DCA16BD#32
  | 106 => 0x3E36B914#32
  | 107 => 0x3E843365#32
  | 108 => 0x3EAD0A3F#32
  | 109 => 0x3ED5E11A#32
  | 110 => 0x3EFEB7F5#32
  | 111 => 0x3F13C768#32
  | 112 => 0x3F2832D5#32
  | 113 => 0x3F3C9E43#32
  | 114 => 0x3F5109B0#32
  | 115 => 0x3F65751D#32
  | 116 => 0x3F79E08B#32
  | 117 => 0x3F7275CC#32
  | 118 => 0x3F5F1F1E#32
  | 119 => 0x3F4BC870#32
  | 120 => 0x3F3871C2#32
  | 121 => 0x3F251B14#32
  | 122 => 0x3F11C466#32
  | 123 => 0x3EFCDB6F#32
  | 124 => 0x3ED62E14#32
  | 125 => 0x3EAF80B8#32
  | 126 => 0x3E88D35C#32
  | 127 => 0x3E444BFF#32
  | _ => 0#32

noncomputable abbrev lit0t0_30 (i : Nat) : BitVec 32 := match i % 128 with
  | 0 => 0x3DEDE28F#32
  | 1 => 0x3D265A3F#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x3D58A347#32
  | 83 => 0x3E03838A#32
  | 84 => 0x3E50DE42#32
  | 85 => 0x3E8F1C7D#32
  | 86 => 0x3EB5C9D9#32
  | 87 => 0x3EDC7735#32
  | 88 => 0x3F019248#32
  | 89 => 0x3F14E8F6#32
  | 90 => 0x3F283FA4#32
  | 91 => 0x3F3B9652#32
  | 92 => 0x3F4EED00#32
  | 93 => 0x3F6243AE#32
  | 94 => 0x3F759A5C#32
  | 95 => 0x3F778825#32
  | 96 => 0x3F653790#32
  | 97 => 0x3F52E6FB#32
  | 98 => 0x3F409665#32
  | 99 => 0x3F2E45D0#32
  | 100 => 0x3F1BF53B#32
  | 101 => 0x3F09A4A5#32
  | 102 => 0x3EEEA820#32
  | 103 => 0x3ECA06F5#32
  | 104 => 0x3EA565CB#32
  | 105 => 0x3E80C4A0#32
  | 106 => 0x3E3846EB#32
  | 107 => 0x3DDE092B#32
  | 108 => 0x3D170900#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_31 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x3D077DAA#32
  | 61 => 0x3DD64380#32
  | 62 => 0x3E346415#32
  | 63 => 0x3E7DA66B#32
  | 64 => 0x3EA37460#32
  | 65 => 0x3EC8158B#32
  | 66 => 0x3EECB6B5#32
  | 67 => 0x3F08ABF0#32
  | 68 => 0x3F1AFC85#32
  | 69 => 0x3F2D4D1B#32
  | 70 => 0x3F3F9DB0#32
  | 71 => 0x3F51EE45#32
  | 72 => 0x3F643EDB#32
  | 73 => 0x3F768F70#32
  | 74 => 0x3F779843#32
  | 75 => 0x3F663FE7#32
  | 76 => 0x3F54E78A#32
  | 77 => 0x3F438F2D#32
  | 78 => 0x3F3236D0#32
  | 79 => 0x3F20DE73#32
  | 80 => 0x3F0F8616#32
  | 81 => 0x3EFC5B72#32
  | 82 => 0x3ED9AAB8#32
  | 83 => 0x3EB6F9FF#32
  | 84 => 0x3E944945#32
  | 85 => 0x3E633116#32
  | 86 => 0x3E1DCFA3#32
  | 87 => 0x3DB0DC5E#32
  | 88 => 0x3C9865DC#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_32 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x3D067BCA#32
  | 39 => 0x3DCE00CC#32
  | 40 => 0x3E2C61DA#32
  | 41 => 0x3E71C34D#32
  | 42 => 0x3E9B9260#32
  | 43 => 0x3EBE431A#32
  | 44 => 0x3EE0F3D4#32
  | 45 => 0x3F01D247#32
  | 46 => 0x3F132AA4#32
  | 47 => 0x3F248301#32
  | 48 => 0x3F35DB5E#32
  | 49 => 0x3F4733BA#32
  | 50 => 0x3F588C17#32
  | 51 => 0x3F69E474#32
  | 52 => 0x3F7B3CD1#32
  | 53 => 0x3F74155B#32
  | 54 => 0x3F63A812#32
  | 55 => 0x3F533ACA#32
  | 56 => 0x3F42CD81#32
  | 57 => 0x3F326038#32
  | 58 => 0x3F21F2F0#32
  | 59 => 0x3F1185A7#32
  | 60 => 0x3F01185F#32
  | 61 => 0x3EE1562C#32
  | 62 => 0x3EC07B9B#32
  | 63 => 0x3E9FA10A#32
  | 64 => 0x3E7D8CF1#32
  | 65 => 0x3E3BD7CE#32
  | 66 => 0x3DF44558#32
  | 67 => 0x3D61B627#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_33 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x3D3EAA55#32
  | 17 => 0x3DE2BF6F#32
  | 18 => 0x3E3314DA#32
  | 19 => 0x3E74C9FC#32
  | 20 => 0x3E9B3F8F#32
  | 21 => 0x3EBC1A21#32
  | 22 => 0x3EDCF4B2#32
  | 23 => 0x3EFDCF43#32
  | 24 => 0x3F0F54EA#32
  | 25 => 0x3F1FC233#32
  | 26 => 0x3F302F7B#32
  | 27 => 0x3F409CC4#32
  | 28 => 0x3F510A0C#32
  | 29 => 0x3F617755#32
  | 30 => 0x3F71E49E#32
  | 31 => 0x3F7DCD8B#32
  | 32 => 0x3F6E3EE5#32
  | 33 => 0x3F5EB03E#32
  | 34 => 0x3F4F2198#32
  | 35 => 0x3F3F92F2#32
  | 36 => 0x3F30044B#32
  | 37 => 0x3F2075A5#32
  | 38 => 0x3F10E6FF#32
  | 39 => 0x3F015858#32
  | 40 => 0x3EE39364#32
  | 41 => 0x3EC47618#32
  | 42 => 0x3EA558CB#32
  | 43 => 0x3E863B7E#32
  | 44 => 0x3E4E3C63#32
  | 45 => 0x3E1001CA#32
  | 46 => 0x3DA38E61#32
  | 47 => 0x3C9C64BB#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x3C0C9D43#32
  | 123 => 0x3D8E08DB#32
  | 124 => 0x3E053F07#32
  | 125 => 0x3E4379A0#32
  | 126 => 0x3E80DA1D#32
  | 127 => 0x3E9FF769#32
  | _ => 0#32

noncomputable abbrev lit0t0_34 (i : Nat) : BitVec 32 := match i % 128 with
  | 0 => 0x3EBF14B6#32
  | 1 => 0x3EDE3203#32
  | 2 => 0x3EFD4F4F#32
  | 3 => 0x3F0E364E#32
  | 4 => 0x3F1DC4F4#32
  | 5 => 0x3F2D539B#32
  | 6 => 0x3F3CE241#32
  | 7 => 0x3F4C70E7#32
  | 8 => 0x3F5BFF8E#32
  | 9 => 0x3F6B8E34#32
  | 10 => 0x3F7B1CDA#32
  | 11 => 0x3F75E51C#32
  | 12 => 0x3F67294E#32
  | 13 => 0x3F586D81#32
  | 14 => 0x3F49B1B3#32
  | 15 => 0x3F3AF5E6#32
  | 16 => 0x3F2C3A19#32
  | 17 => 0x3F1D7E4B#32
  | 18 => 0x3F0EC27E#32
  | 19 => 0x3F0006B0#32
  | 20 => 0x3EE295C6#32
  | 21 => 0x3EC51E2B#32
  | 22 => 0x3EA7A690#32
  | 23 => 0x3E8A2EF5#32
  | 24 => 0x3E596EB5#32
  | 25 => 0x3E1E7F80#32
  | 26 => 0x3DC72094#32
  | 27 => 0x3D228451#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x3D21AE46#32
  | 101 => 0x3DC6B58E#32
  | 102 => 0x3E1E49FD#32
  | 103 => 0x3E593932#32
  | 104 => 0x3E8A1434#32
  | 105 => 0x3EA78BCF#32
  | 106 => 0x3EC5036A#32
  | 107 => 0x3EE27B04#32
  | 108 => 0x3EFFF29F#32
  | 109 => 0x3F0EB51D#32
  | 110 => 0x3F1D70EA#32
  | 111 => 0x3F2C2CB8#32
  | 112 => 0x3F3AE885#32
  | 113 => 0x3F49A453#32
  | 114 => 0x3F586020#32
  | 115 => 0x3F671BEE#32
  | 116 => 0x3F75D7BB#32
  | 117 => 0x3F7BAA7D#32
  | 118 => 0x3F6DB65F#32
  | 119 => 0x3F5FC241#32
  | 120 => 0x3F51CE23#32
  | 121 => 0x3F43DA05#32
  | 122 => 0x3F35E5E7#32
  | 123 => 0x3F27F1C9#32
  | 124 => 0x3F19FDAB#32
  | 125 => 0x3F0C098D#32
  | 126 => 0x3EFC2ADD#32
  | 127 => 0x3EE042A1#32
  | _ => 0#32

noncomputable abbrev lit0t0_35 (i : Nat) : BitVec 32 := match i % 128 with
  | 0 => 0x3EC45A64#32
  | 1 => 0x3EA87228#32
  | 2 => 0x3E8C89EC#32
  | 3 => 0x3E614360#32
  | 4 => 0x3E2972E7#32
  | 5 => 0x3DE344DD#32
  | 6 => 0x3D6747D9#32
  | 7 => 0x3B005F6B#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x3C8AB051#32
  | 79 => 0x3D924D05#32
  | 80 => 0x3E00F6FB#32
  | 81 => 0x3E38C773#32
  | 82 => 0x3E7097EC#32
  | 83 => 0x3E943432#32
  | 84 => 0x3EB01C6E#32
  | 85 => 0x3ECC04AB#32
  | 86 => 0x3EE7ECE7#32
  | 87 => 0x3F01EA92#32
  | 88 => 0x3F0FDEB0#32
  | 89 => 0x3F1DD2CE#32
  | 90 => 0x3F2BC6EC#32
  | 91 => 0x3F39BB0A#32
  | 92 => 0x3F47AF28#32
  | 93 => 0x3F55A346#32
  | 94 => 0x3F639764#32
  | 95 => 0x3F718B82#32
  | 96 => 0x3F7F7FA1#32
  | 97 => 0x3F734292#32
  | 98 => 0x3F660B91#32
  | 99 => 0x3F58D490#32
  | 100 => 0x3F4B9D8F#32
  | 101 => 0x3F3E668E#32
  | 102 => 0x3F312F8D#32
  | 103 => 0x3F23F88C#32
  | 104 => 0x3F16C18A#32
  | 105 => 0x3F098A89#32
  | 106 => 0x3EF8A710#32
  | 107 => 0x3EDE390E#32
  | 108 => 0x3EC3CB0C#32
  | 109 => 0x3EA95D09#32
  | 110 => 0x3E8EEF07#32
  | 111 => 0x3E690209#32
  | 112 => 0x3E342605#32
  | 113 => 0x3DFE9400#32
  | 114 => 0x3D94DBF7#32
  | 115 => 0x3CAC8FB7#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_36 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x3D4BD6D9#32
  | 57 => 0x3DCFA376#32
  | 58 => 0x3E1CADBF#32
  | 59 => 0x3E5189C4#32
  | 60 => 0x3E8332E4#32
  | 61 => 0x3E9DA0E7#32
  | 62 => 0x3EB80EE9#32
  | 63 => 0x3ED27CEB#32
  | 64 => 0x3EECEAEE#32
  | 65 => 0x3F03AC78#32
  | 66 => 0x3F10E379#32
  | 67 => 0x3F1E1A7A#32
  | 68 => 0x3F2B517B#32
  | 69 => 0x3F38887D#32
  | 70 => 0x3F45BF7E#32
  | 71 => 0x3F52F67F#32
  | 72 => 0x3F602D80#32
  | 73 => 0x3F6D6481#32
  | 74 => 0x3F7A9B82#32
  | 75 => 0x3F789781#32
  | 76 => 0x3F6C1399#32
  | 77 => 0x3F5F8FB2#32
  | 78 => 0x3F530BCB#32
  | 79 => 0x3F4687E4#32
  | 80 => 0x3F3A03FC#32
  | 81 => 0x3F2D8015#32
  | 82 => 0x3F20FC2E#32
  | 83 => 0x3F147847#32
  | 84 => 0x3F07F460#32
  | 85 => 0x3EF6E0F1#32
  | 86 => 0x3EDDD922#32
  | 87 => 0x3EC4D154#32
  | 88 => 0x3EABC985#32
  | 89 => 0x3E92C1B7#32
  | 90 => 0x3E7373D0#32
  | 91 => 0x3E416433#32
  | 92 => 0x3E0F5496#32
  | 93 => 0x3DBA89F3#32
  | 94 => 0x3D2CD572#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_37 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x3CED0FEB#32
  | 35 => 0x3D9F6335#32
  | 36 => 0x3E01C137#32
  | 37 => 0x3E33D0D4#32
  | 38 => 0x3E65E071#32
  | 39 => 0x3E8BF807#32
  | 40 => 0x3EA4FFD6#32
  | 41 => 0x3EBE07A4#32
  | 42 => 0x3ED70F73#32
  | 43 => 0x3EF01741#32
  | 44 => 0x3F048F88#32
  | 45 => 0x3F11136F#32
  | 46 => 0x3F1D9756#32
  | 47 => 0x3F2A1B3D#32
  | 48 => 0x3F369F25#32
  | 49 => 0x3F43230C#32
  | 50 => 0x3F4FA6F3#32
  | 51 => 0x3F5C2ADA#32
  | 52 => 0x3F68AEC2#32
  | 53 => 0x3F7532A9#32
  | 54 => 0x3F7E60A8#32
  | 55 => 0x3F72865F#32
  | 56 => 0x3F66AC16#32
  | 57 => 0x3F5AD1CE#32
  | 58 => 0x3F4EF785#32
  | 59 => 0x3F431D3C#32
  | 60 => 0x3F3742F4#32
  | 61 => 0x3F2B68AB#32
  | 62 => 0x3F1F8E62#32
  | 63 => 0x3F13B419#32
  | 64 => 0x3F07D9D1#32
  | 65 => 0x3EF7FF10#32
  | 66 => 0x3EE04A7F#32
  | 67 => 0x3EC895ED#32
  | 68 => 0x3EB0E15C#32
  | 69 => 0x3E992CCB#32
  | 70 => 0x3E817839#32
  | 71 => 0x3E538750#32
  | 72 => 0x3E241E2D#32
  | 73 => 0x3DE96A15#32
  | 74 => 0x3D8A97CF#32
  | 75 => 0x3CAF1627#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_38 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x3BCFAC24#32
  | 13 => 0x3D579A10#32
  | 14 => 0x3DCA9F4D#32
  | 15 => 0x3E14B8C9#32
  | 16 => 0x3E4421EC#32
  | 17 => 0x3E738B0F#32
  | 18 => 0x3E917A19#32
  | 19 => 0x3EA92EAA#32
  | 20 => 0x3EC0E33C#32
  | 21 => 0x3ED897CD#32
  | 22 => 0x3EF04C5E#32
  | 23 => 0x3F040078#32
  | 24 => 0x3F0FDAC1#32
  | 25 => 0x3F1BB509#32
  | 26 => 0x3F278F52#32
  | 27 => 0x3F33699B#32
  | 28 => 0x3F3F43E3#32
  | 29 => 0x3F4B1E2C#32
  | 30 => 0x3F56F875#32
  | 31 => 0x3F62D2BD#32
  | 32 => 0x3F6EAD06#32
  | 33 => 0x3F7A874F#32
  | 34 => 0x3F79F4E5#32
  | 35 => 0x3F6EBB40#32
  | 36 => 0x3F63819B#32
  | 37 => 0x3F5847F6#32
  | 38 => 0x3F4D0E51#32
  | 39 => 0x3F41D4AC#32
  | 40 => 0x3F369B07#32
  | 41 => 0x3F2B6162#32
  | 42 => 0x3F2027BD#32
  | 43 => 0x3F14EE18#32
  | 44 => 0x3F09B473#32
  | 45 => 0x3EFCF59B#32
  | 46 => 0x3EE68251#32
  | 47 => 0x3ED00F07#32
  | 48 => 0x3EB99BBD#32
  | 49 => 0x3EA32873#32
  | 50 => 0x3E8CB529#32
  | 51 => 0x3E6C83BF#32
  | 52 => 0x3E3F9D2B#32
  | 53 => 0x3E12B697#32
  | 54 => 0x3DCBA006#32
  | 55 => 0x3D63A5BB#32
  | 56 => 0x3C402DAE#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x3CC1636C#32
  | 119 => 0x3D8A2603#32
  | 120 => 0x3DE3F32B#32
  | 121 => 0x3E1EE02A#32
  | 122 => 0x3E4BC6BD#32
  | 123 => 0x3E78AD51#32
  | 124 => 0x3E92C9F3#32
  | 125 => 0x3EA93D3D#32
  | 126 => 0x3EBFB087#32
  | 127 => 0x3ED623D1#32
  | _ => 0#32

noncomputable abbrev lit0t0_39 (i : Nat) : BitVec 32 := match i % 128 with
  | 0 => 0x3EEC971B#32
  | 1 => 0x3F018532#32
  | 2 => 0x3F0CBED7#32
  | 3 => 0x3F17F87C#32
  | 4 => 0x3F233221#32
  | 5 => 0x3F2E6BC6#32
  | 6 => 0x3F39A56B#32
  | 7 => 0x3F44DF10#32
  | 8 => 0x3F5018B5#32
  | 9 => 0x3F5B525A#32
  | 10 => 0x3F668BFF#32
  | 11 => 0x3F71C5A4#32
  | 12 => 0x3F7CFF49#32
  | 13 => 0x3F783682#32
  | 14 => 0x3F6D94FF#32
  | 15 => 0x3F62F37D#32
  | 16 => 0x3F5851FB#32
  | 17 => 0x3F4DB078#32
  | 18 => 0x3F430EF6#32
  | 19 => 0x3F386D73#32
  | 20 => 0x3F2DCBF1#32
  | 21 => 0x3F232A6E#32
  | 22 => 0x3F1888EC#32
  | 23 => 0x3F0DE769#32
  | 24 => 0x3F0345E7#32
  | 25 => 0x3EF148C9#32
  | 26 => 0x3EDC05C4#32
  | 27 => 0x3EC6C2BF#32
  | 28 => 0x3EB17FBA#32
  | 29 => 0x3E9C3CB5#32
  | 30 => 0x3E86F9B1#32
  | 31 => 0x3E636D57#32
  | 32 => 0x3E38E74D#32
  | 33 => 0x3E0E6144#32
  | 34 => 0x3DC7B674#32
  | 35 => 0x3D6554C0#32
  | 36 => 0x3C6CF265#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x3CF92FC4#32
  | 97 => 0x3D935805#32
  | 98 => 0x3DE86418#32
  | 99 => 0x3E1EB816#32
  | 100 => 0x3E493E20#32
  | 101 => 0x3E73C429#32
  | 102 => 0x3E8F251A#32
  | 103 => 0x3EA4681F#32
  | 104 => 0x3EB9AB23#32
  | 105 => 0x3ECEEE28#32
  | 106 => 0x3EE4312D#32
  | 107 => 0x3EF97432#32
  | 108 => 0x3F075B9B#32
  | 109 => 0x3F11FD1E#32
  | 110 => 0x3F1C9EA0#32
  | 111 => 0x3F274023#32
  | 112 => 0x3F31E1A5#32
  | 113 => 0x3F3C8328#32
  | 114 => 0x3F4724AA#32
  | 115 => 0x3F51C62D#32
  | 116 => 0x3F5C67AF#32
  | 117 => 0x3F670932#32
  | 118 => 0x3F71AAB4#32
  | 119 => 0x3F7C4C36#32
  | 120 => 0x3F79702E#32
  | 121 => 0x3F6F5EC1#32
  | 122 => 0x3F654D53#32
  | 123 => 0x3F5B3BE5#32
  | 124 => 0x3F512A77#32
  | 125 => 0x3F471909#32
  | 126 => 0x3F3D079C#32
  | 127 => 0x3F32F62E#32
  | _ => 0#32

noncomputable abbrev lit0t0_40 (i : Nat) : BitVec 32 := match i % 128 with
  | 0 => 0x3F28E4C0#32
  | 1 => 0x3F1ED352#32
  | 2 => 0x3F14C1E5#32
  | 3 => 0x3F0AB077#32
  | 4 => 0x3F009F09#32
  | 5 => 0x3EED1B36#32
  | 6 => 0x3ED8F85B#32
  | 7 => 0x3EC4D57F#32
  | 8 => 0x3EB0B2A4#32
  | 9 => 0x3E9C8FC8#32
  | 10 => 0x3E886CEC#32
  | 11 => 0x3E689422#32
  | 12 => 0x3E404E6B#32
  | 13 => 0x3E1808B3#32
  | 14 => 0x3DDF85F9#32
  | 15 => 0x3D8EFA8A#32
  | 16 => 0x3CF9BC70#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x3CD1FA33#32
  | 75 => 0x3D8509FB#32
  | 76 => 0x3DD59569#32
  | 77 => 0x3E13106C#32
  | 78 => 0x3E3B5623#32
  | 79 => 0x3E639BDA#32
  | 80 => 0x3E85F0C9#32
  | 81 => 0x3E9A13A4#32
  | 82 => 0x3EAE3680#32
  | 83 => 0x3EC2595B#32
  | 84 => 0x3ED67C37#32
  | 85 => 0x3EEA9F13#32
  | 86 => 0x3EFEC1EE#32
  | 87 => 0x3F097265#32
  | 88 => 0x3F1383D3#32
  | 89 => 0x3F1D9540#32
  | 90 => 0x3F27A6AE#32
  | 91 => 0x3F31B81C#32
  | 92 => 0x3F3BC98A#32
  | 93 => 0x3F45DAF8#32
  | 94 => 0x3F4FEC65#32
  | 95 => 0x3F59FDD3#32
  | 96 => 0x3F640F41#32
  | 97 => 0x3F6E20AF#32
  | 98 => 0x3F78321D#32
  | 99 => 0x3F7DDB24#32
  | 100 => 0x3F74522A#32
  | 101 => 0x3F6AC931#32
  | 102 => 0x3F614037#32
  | 103 => 0x3F57B73D#32
  | 104 => 0x3F4E2E43#32
  | 105 => 0x3F44A549#32
  | 106 => 0x3F3B1C4F#32
  | 107 => 0x3F319355#32
  | 108 => 0x3F280A5C#32
  | 109 => 0x3F1E8162#32
  | 110 => 0x3F14F868#32
  | 111 => 0x3F0B6F6E#32
  | 112 => 0x3F01E674#32
  | 113 => 0x3EF0BAF4#32
  | 114 => 0x3EDDA901#32
  | 115 => 0x3ECA970D#32
  | 116 => 0x3EB78519#32
  | 117 => 0x3EA47326#32
  | 118 => 0x3E916132#32
  | 119 => 0x3E7C9E7C#32
  | 120 => 0x3E567A95#32
  | 121 => 0x3E3056AE#32
  | 122 => 0x3E0A32C6#32
  | 123 => 0x3DC81DBD#32
  | 124 => 0x3D77ABDD#32
  | 125 => 0x3CBE387F#32
  | 126 => 0x00000000#32
  | 127 => 0x00000000#32
  | _ => 0#32

noncomputable abbrev lit0t0_41 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x3C0936F2#32
  | 53 => 0x3D3ADD5A#32
  | 54 => 0x3DA9B67C#32
  | 55 => 0x3DF5FE4B#32
  | 56 => 0x3E21230D#32
  | 57 => 0x3E4746F4#32
  | 58 => 0x3E6D6ADC#32
  | 59 => 0x3E89C762#32
  | 60 => 0x3E9CD955#32
  | 61 => 0x3EAFEB49#32
  | 62 => 0x3EC2FD3D#32
  | 63 => 0x3ED60F30#32
  | 64 => 0x3EE92124#32
  | 65 => 0x3EFC3318#32
  | 66 => 0x3F07A286#32
  | 67 => 0x3F112B80#32
  | 68 => 0x3F1AB479#32
  | 69 => 0x3F243D73#32
  | 70 => 0x3F2DC66D#32
  | 71 => 0x3F374F67#32
  | 72 => 0x3F40D861#32
  | 73 => 0x3F4A615B#32
  | 74 => 0x3F53EA55#32
  | 75 => 0x3F5D734E#32
  | 76 => 0x3F66FC48#32
  | 77 => 0x3F708542#32
  | 78 => 0x3F7A0E3C#32
  | 79 => 0x3F7C9974#32
  | 80 => 0x3F7391B5#32
  | 81 => 0x3F6A89F6#32
  | 82 => 0x3F618236#32
  | 83 => 0x3F587A77#32
  | 84 => 0x3F4F72B8#32
  | 85 => 0x3F466AF9#32
  | 86 => 0x3F3D6339#32
  | 87 => 0x3F345B7A#32
  | 88 => 0x3F2B53BB#32
  | 89 => 0x3F224BFB#32
  | 90 => 0x3F19443C#32
  | 91 => 0x3F103C7D#32
  | 92 => 0x3F0734BE#32
  | 93 => 0x3EFC59FD#32
  | 94 => 0x3EEA4A7E#32
  | 95 => 0x3ED83B00#32
  | 96 => 0x3EC62B81#32
  | 97 => 0x3EB41C03#32
  | 98 => 0x3EA20C84#32
  | 99 => 0x3E8FFD05#32
  | 100 => 0x3E7BDB0E#32
  | 101 => 0x3E57BC11#32
  | 102 => 0x3E339D14#32
  | 103 => 0x3E0F7E17#32
  | 104 => 0x3DD6BE33#32
  | 105 => 0x3D8E8039#32
  | 106 => 0x3D0C847D#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_42 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x3C59A2F5#32
  | 31 => 0x3D46E4B2#32
  | 32 => 0x3DABB053#32
  | 33 => 0x3DF3EE4D#32
  | 34 => 0x3E1E1624#32
  | 35 => 0x3E423521#32
  | 36 => 0x3E66541E#32
  | 37 => 0x3E85398D#32
  | 38 => 0x3E97490C#32
  | 39 => 0x3EA9588B#32
  | 40 => 0x3EBB6809#32
  | 41 => 0x3ECD7788#32
  | 42 => 0x3EDF8706#32
  | 43 => 0x3EF19685#32
  | 44 => 0x3F01D302#32
  | 45 => 0x3F0ADAC1#32
  | 46 => 0x3F13E280#32
  | 47 => 0x3F1CEA3F#32
  | 48 => 0x3F25F1FF#32
  | 49 => 0x3F2EF9BE#32
  | 50 => 0x3F38017D#32
  | 51 => 0x3F41093D#32
  | 52 => 0x3F4A10FC#32
  | 53 => 0x3F5318BB#32
  | 54 => 0x3F5C207A#32
  | 55 => 0x3F65283A#32
  | 56 => 0x3F6E2FF9#32
  | 57 => 0x3F7737B8#32
  | 58 => 0x3F7FC3E5#32
  | 59 => 0x3F773689#32
  | 60 => 0x3F6EA92C#32
  | 61 => 0x3F661BD0#32
  | 62 => 0x3F5D8E74#32
  | 63 => 0x3F550118#32
  | 64 => 0x3F4C73BC#32
  | 65 => 0x3F43E660#32
  | 66 => 0x3F3B5904#32
  | 67 => 0x3F32CBA8#32
  | 68 => 0x3F2A3E4B#32
  | 69 => 0x3F21B0EF#32
  | 70 => 0x3F192393#32
  | 71 => 0x3F109637#32
  | 72 => 0x3F0808DB#32
  | 73 => 0x3EFEF6FE#32
  | 74 => 0x3EEDDC45#32
  | 75 => 0x3EDCC18D#32
  | 76 => 0x3ECBA6D5#32
  | 77 => 0x3EBA8C1D#32
  | 78 => 0x3EA97164#32
  | 79 => 0x3E9856AC#32
  | 80 => 0x3E873BF4#32
  | 81 => 0x3E6C4277#32
  | 82 => 0x3E4A0D07#32
  | 83 => 0x3E27D796#32
  | 84 => 0x3E05A226#32
  | 85 => 0x3DC6D96A#32
  | 86 => 0x3D826E89#32
  | 87 => 0x3CF80EA0#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_43 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x3A706D21#32
  | 9 => 0x3D0C9777#32
  | 10 => 0x3D8AB69C#32
  | 11 => 0x3DCF217D#32
  | 12 => 0x3E09C62F#32
  | 13 => 0x3E2BFBA0#32
  | 14 => 0x3E4E3110#32
  | 15 => 0x3E706681#32
  | 16 => 0x3E894DF9#32
  | 17 => 0x3E9A68B1#32
  | 18 => 0x3EAB8369#32
  | 19 => 0x3EBC9E21#32
  | 20 => 0x3ECDB8DA#32
  | 21 => 0x3EDED392#32
  | 22 => 0x3EEFEE4A#32
  | 23 => 0x3F008481#32
  | 24 => 0x3F0911DD#32
  | 25 => 0x3F119F39#32
  | 26 => 0x3F1A2C96#32
  | 27 => 0x3F22B9F2#32
  | 28 => 0x3F2B474E#32
  | 29 => 0x3F33D4AA#32
  | 30 => 0x3F3C6206#32
  | 31 => 0x3F44EF62#32
  | 32 => 0x3F4D7CBE#32
  | 33 => 0x3F560A1A#32
  | 34 => 0x3F5E9777#32
  | 35 => 0x3F6724D3#32
  | 36 => 0x3F6FB22F#32
  | 37 => 0x3F783F8B#32
  | 38 => 0x3F7F3DF2#32
  | 39 => 0x3F77247E#32
  | 40 => 0x3F6F0B0B#32
  | 41 => 0x3F66F197#32
  | 42 => 0x3F5ED823#32
  | 43 => 0x3F56BEAF#32
  | 44 => 0x3F4EA53C#32
  | 45 => 0x3F468BC8#32
  | 46 => 0x3F3E7254#32
  | 47 => 0x3F3658E1#32
  | 48 => 0x3F2E3F6D#32
  | 49 => 0x3F2625F9#32
  | 50 => 0x3F1E0C86#32
  | 51 => 0x3F15F312#32
  | 52 => 0x3F0DD99E#32
  | 53 => 0x3F05C02A#32
  | 54 => 0x3EFB4D6D#32
  | 55 => 0x3EEB1A86#32
  | 56 => 0x3EDAE79F#32
  | 57 => 0x3ECAB4B7#32
  | 58 => 0x3EBA81D0#32
  | 59 => 0x3EAA4EE8#32
  | 60 => 0x3E9A1C01#32
  | 61 => 0x3E89E91A#32
  | 62 => 0x3E736C64#32
  | 63 => 0x3E530696#32
  | 64 => 0x3E32A0C7#32
  | 65 => 0x3E123AF8#32
  | 66 => 0x3DE3AA52#32
  | 67 => 0x3DA2DEB5#32
  | 68 => 0x3D44262E#32
  | 69 => 0x3C851DE6#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x3B420E14#32
  | 115 => 0x3D0DB81C#32
  | 116 => 0x3D87A7AC#32
  | 117 => 0x3DC87349#32
  | 118 => 0x3E049F74#32
  | 119 => 0x3E250542#32
  | 120 => 0x3E456B11#32
  | 121 => 0x3E65D0E0#32
  | 122 => 0x3E831B57#32
  | 123 => 0x3E934E3F#32
  | 124 => 0x3EA38126#32
  | 125 => 0x3EB3B40E#32
  | 126 => 0x3EC3E6F5#32
  | 127 => 0x3ED419DC#32
  | _ => 0#32

noncomputable abbrev lit0t0_44 (i : Nat) : BitVec 32 := match i % 128 with
  | 0 => 0x3EE44CC4#32
  | 1 => 0x3EF47FAB#32
  | 2 => 0x3F025949#32
  | 3 => 0x3F0A72BD#32
  | 4 => 0x3F128C31#32
  | 5 => 0x3F1AA5A4#32
  | 6 => 0x3F22BF18#32
  | 7 => 0x3F2AD88C#32
  | 8 => 0x3F32F200#32
  | 9 => 0x3F3B0B73#32
  | 10 => 0x3F4324E7#32
  | 11 => 0x3F4B3E5B#32
  | 12 => 0x3F5357CE#32
  | 13 => 0x3F5B7142#32
  | 14 => 0x3F638AB6#32
  | 15 => 0x3F6BA429#32
  | 16 => 0x3F73BD9D#32
  | 17 => 0x3F7BD711#32
  | 18 => 0x3F7C44E0#32
  | 19 => 0x3F749932#32
  | 20 => 0x3F6CED84#32
  | 21 => 0x3F6541D5#32
  | 22 => 0x3F5D9627#32
  | 23 => 0x3F55EA79#32
  | 24 => 0x3F4E3ECB#32
  | 25 => 0x3F46931D#32
  | 26 => 0x3F3EE76F#32
  | 27 => 0x3F373BC0#32
  | 28 => 0x3F2F9012#32
  | 29 => 0x3F27E464#32
  | 30 => 0x3F2038B6#32
  | 31 => 0x3F188D08#32
  | 32 => 0x3F10E159#32
  | 33 => 0x3F0935AB#32
  | 34 => 0x3F0189FD#32
  | 35 => 0x3EF3BC9E#32
  | 36 => 0x3EE46542#32
  | 37 => 0x3ED50DE5#32
  | 38 => 0x3EC5B689#32
  | 39 => 0x3EB65F2C#32
  | 40 => 0x3EA707D0#32
  | 41 => 0x3E97B074#32
  | 42 => 0x3E885917#32
  | 43 => 0x3E720376#32
  | 44 => 0x3E5354BD#32
  | 45 => 0x3E34A605#32
  | 46 => 0x3E15F74C#32
  | 47 => 0x3DEE9127#32
  | 48 => 0x3DB133B5#32
  | 49 => 0x3D67AC88#32
  | 50 => 0x3CD9E34A#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x3C6EC804#32
  | 93 => 0x3D366CE4#32
  | 94 => 0x3D9893E3#32
  | 95 => 0x3DD5F155#32
  | 96 => 0x3E09A763#32
  | 97 => 0x3E28561C#32
  | 98 => 0x3E4704D4#32
  | 99 => 0x3E65B38D#32
  | 100 => 0x3E823123#32
  | 101 => 0x3E91887F#32
  | 102 => 0x3EA0DFDC#32
  | 103 => 0x3EB03738#32
  | 104 => 0x3EBF8E94#32
  | 105 => 0x3ECEE5F1#32
  | 106 => 0x3EDE3D4D#32
  | 107 => 0x3EED94A9#32
  | 108 => 0x3EFCEC06#32
  | 109 => 0x3F0621B1#32
  | 110 => 0x3F0DCD5F#32
  | 111 => 0x3F15790D#32
  | 112 => 0x3F1D24BC#32
  | 113 => 0x3F24D06A#32
  | 114 => 0x3F2C7C18#32
  | 115 => 0x3F3427C6#32
  | 116 => 0x3F3BD374#32
  | 117 => 0x3F437F22#32
  | 118 => 0x3F4B2AD1#32
  | 119 => 0x3F52D67F#32
  | 120 => 0x3F5A822D#32
  | 121 => 0x3F622DDB#32
  | 122 => 0x3F69D989#32
  | 123 => 0x3F718538#32
  | 124 => 0x3F7930E6#32
  | 125 => 0x3F7F2F1A#32
  | 126 => 0x3F77EB61#32
  | 127 => 0x3F70A7A9#32
  | _ => 0#32

noncomputable abbrev lit0t0_45 (i : Nat) : BitVec 32 := match i % 128 with
  | 0 => 0x3F6963F0#32
  | 1 => 0x3F622038#32
  | 2 => 0x3F5ADC80#32
  | 3 => 0x3F5398C7#32
  | 4 => 0x3F4C550F#32
  | 5 => 0x3F451157#32
  | 6 => 0x3F3DCD9E#32
  | 7 => 0x3F3689E6#32
  | 8 => 0x3F2F462D#32
  | 9 => 0x3F280275#32
  | 10 => 0x3F20BEBD#32
  | 11 => 0x3F197B04#32
  | 12 => 0x3F12374C#32
  | 13 => 0x3F0AF393#32
  | 14 => 0x3F03AFDB#32
  | 15 => 0x3EF8D845#32
  | 16 => 0x3EEA50D5#32
  | 17 => 0x3EDBC964#32
  | 18 => 0x3ECD41F3#32
  | 19 => 0x3EBEBA82#32
  | 20 => 0x3EB03311#32
  | 21 => 0x3EA1ABA1#32
  | 22 => 0x3E932430#32
  | 23 => 0x3E849CBF#32
  | 24 => 0x3E6C2A9D#32
  | 25 => 0x3E4F1BBB#32
  | 26 => 0x3E320CDA#32
  | 27 => 0x3E14FDF8#32
  | 28 => 0x3DEFDE2D#32
  | 29 => 0x3DB5C06A#32
  | 30 => 0x3D77454E#32
  | 31 => 0x3D0309C8#32
  | 32 => 0x3B6CE41D#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x3B50E65E#32
  | 71 => 0x3D0149EC#32
  | 72 => 0x3D758572#32
  | 73 => 0x3DB4E07C#32
  | 74 => 0x3DEEFE3F#32
  | 75 => 0x3E148E01#32
  | 76 => 0x3E319CE3#32
  | 77 => 0x3E4EABC4#32
  | 78 => 0x3E6BBAA6#32
  | 79 => 0x3E8464C4#32
  | 80 => 0x3E92EC34#32
  | 81 => 0x3EA173A5#32
  | 82 => 0x3EAFFB16#32
  | 83 => 0x3EBE8287#32
  | 84 => 0x3ECD09F8#32
  | 85 => 0x3EDB9168#32
  | 86 => 0x3EEA18D9#32
  | 87 => 0x3EF8A04A#32
  | 88 => 0x3F0393DD#32
  | 89 => 0x3F0AD796#32
  | 90 => 0x3F121B4E#32
  | 91 => 0x3F195F06#32
  | 92 => 0x3F20A2BF#32
  | 93 => 0x3F27E677#32
  | 94 => 0x3F2F2A30#32
  | 95 => 0x3F366DE8#32
  | 96 => 0x3F3DB1A0#32
  | 97 => 0x3F44F559#32
  | 98 => 0x3F4C3911#32
  | 99 => 0x3F537CCA#32
  | 100 => 0x3F5AC082#32
  | 101 => 0x3F62043A#32
  | 102 => 0x3F6947F3#32
  | 103 => 0x3F708BAB#32
  | 104 => 0x3F77CF64#32
  | 105 => 0x3F7F131C#32
  | 106 => 0x3F79FF16#32
  | 107 => 0x3F731DD2#32
  | 108 => 0x3F6C3C8F#32
  | 109 => 0x3F655B4B#32
  | 110 => 0x3F5E7A08#32
  | 111 => 0x3F5798C4#32
  | 112 => 0x3F50B781#32
  | 113 => 0x3F49D63D#32
  | 114 => 0x3F42F4F9#32
  | 115 => 0x3F3C13B6#32
  | 116 => 0x3F353272#32
  | 117 => 0x3F2E512F#32
  | 118 => 0x3F276FEB#32
  | 119 => 0x3F208EA8#32
  | 120 => 0x3F19AD64#32
  | 121 => 0x3F12CC20#32
  | 122 => 0x3F0BEADD#32
  | 123 => 0x3F050999#32
  | 124 => 0x3EFC50AB#32
  | 125 => 0x3EEE8E24#32
  | 126 => 0x3EE0CB9D#32
  | 127 => 0x3ED30916#32
  | _ => 0#32

noncomputable abbrev lit0t0_46 (i : Nat) : BitVec 32 := match i % 128 with
  | 0 => 0x3EC5468F#32
  | 1 => 0x3EB78408#32
  | 2 => 0x3EA9C181#32
  | 3 => 0x3E9BFEF9#32
  | 4 => 0x3E8E3C72#32
  | 5 => 0x3E8079EB#32
  | 6 => 0x3E656EC8#32
  | 7 => 0x3E49E9BA#32
  | 8 => 0x3E2E64AB#32
  | 9 => 0x3E12DF9D#32
  | 10 => 0x3DEEB51E#32
  | 11 => 0x3DB7AB01#32
  | 12 => 0x3D80A0E5#32
  | 13 => 0x3D132D90#32
  | 14 => 0x3C14655C#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x3CC01D41#32
  | 49 => 0x3D4E22DA#32
  | 50 => 0x3D9E1B89#32
  | 51 => 0x3DD525A6#32
  | 52 => 0x3E0617E1#32
  | 53 => 0x3E219CF0#32
  | 54 => 0x3E3D21FE#32
  | 55 => 0x3E58A70C#32
  | 56 => 0x3E742C1A#32
  | 57 => 0x3E87D894#32
  | 58 => 0x3E959B1B#32
  | 59 => 0x3EA35DA3#32
  | 60 => 0x3EB1202A#32
  | 61 => 0x3EBEE2B1#32
  | 62 => 0x3ECCA538#32
  | 63 => 0x3EDA67BF#32
  | 64 => 0x3EE82A46#32
  | 65 => 0x3EF5ECCD#32
  | 66 => 0x3F01D7AA#32
  | 67 => 0x3F08B8EE#32
  | 68 => 0x3F0F9A31#32
  | 69 => 0x3F167B75#32
  | 70 => 0x3F1D5CB9#32
  | 71 => 0x3F243DFC#32
  | 72 => 0x3F2B1F40#32
  | 73 => 0x3F320083#32
  | 74 => 0x3F38E1C7#32
  | 75 => 0x3F3FC30A#32
  | 76 => 0x3F46A44E#32
  | 77 => 0x3F4D8592#32
  | 78 => 0x3F5466D5#32
  | 79 => 0x3F5B4819#32
  | 80 => 0x3F62295C#32
  | 81 => 0x3F690AA0#32
  | 82 => 0x3F6FEBE3#32
  | 83 => 0x3F76CD27#32
  | 84 => 0x3F7DAE6B#32
  | 85 => 0x3F7BAE23#32
  | 86 => 0x3F752A1E#32
  | 87 => 0x3F6EA619#32
  | 88 => 0x3F682214#32
  | 89 => 0x3F619E0F#32
  | 90 => 0x3F5B1A0A#32
  | 91 => 0x3F549605#32
  | 92 => 0x3F4E1200#32
  | 93 => 0x3F478DFA#32
  | 94 => 0x3F4109F5#32
  | 95 => 0x3F3A85F0#32
  | 96 => 0x3F3401EB#32
  | 97 => 0x3F2D7DE6#32
  | 98 => 0x3F26F9E1#32
  | 99 => 0x3F2075DC#32
  | 100 => 0x3F19F1D6#32
  | 101 => 0x3F136DD1#32
  | 102 => 0x3F0CE9CC#32
  | 103 => 0x3F0665C7#32
  | 104 => 0x3EFFC384#32
  | 105 => 0x3EF2BB7A#32
  | 106 => 0x3EE5B36F#32
  | 107 => 0x3ED8AB65#32
  | 108 => 0x3ECBA35B#32
  | 109 => 0x3EBE9B51#32
  | 110 => 0x3EB19346#32
  | 111 => 0x3EA48B3C#32
  | 112 => 0x3E978332#32
  | 113 => 0x3E8A7B27#32
  | 114 => 0x3E7AE63A#32
  | 115 => 0x3E60D626#32
  | 116 => 0x3E46C611#32
  | 117 => 0x3E2CB5FD#32
  | 118 => 0x3E12A5E8#32
  | 119 => 0x3DF12BA7#32
  | 120 => 0x3DBD0B7E#32
  | 121 => 0x3D88EB55#32
  | 122 => 0x3D299659#32
  | 123 => 0x3C82AC0D#32
  | 124 => 0x00000000#32
  | 125 => 0x00000000#32
  | 126 => 0x00000000#32
  | 127 => 0x00000000#32
  | _ => 0#32

noncomputable abbrev lit0t0_47 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x3C8A3B91#32
  | 27 => 0x3D2D5E1B#32
  | 28 => 0x3D8ACF36#32
  | 29 => 0x3DBEEF60#32
  | 30 => 0x3DF30F89#32
  | 31 => 0x3E1397D9#32
  | 32 => 0x3E2DA7ED#32
  | 33 => 0x3E47B802#32
  | 34 => 0x3E61C816#32
  | 35 => 0x3E7BD82B#32
  | 36 => 0x3E8AF420#32
  | 37 => 0x3E97FC2A#32
  | 38 => 0x3EA50434#32
  | 39 => 0x3EB20C3F#32
  | 40 => 0x3EBF1449#32
  | 41 => 0x3ECC1C53#32
  | 42 => 0x3ED9245D#32
  | 43 => 0x3EE62C68#32
  | 44 => 0x3EF33472#32
  | 45 => 0x3F001E3E#32
  | 46 => 0x3F06A243#32
  | 47 => 0x3F0D2648#32
  | 48 => 0x3F13AA4D#32
  | 49 => 0x3F1A2E53#32
  | 50 => 0x3F20B258#32
  | 51 => 0x3F27365D#32
  | 52 => 0x3F2DBA62#32
  | 53 => 0x3F343E67#32
  | 54 => 0x3F3AC26C#32
  | 55 => 0x3F414671#32
  | 56 => 0x3F47CA77#32
  | 57 => 0x3F4E4E7C#32
  | 58 => 0x3F54D281#32
  | 59 => 0x3F5B5686#32
  | 60 => 0x3F61DA8B#32
  | 61 => 0x3F685E90#32
  | 62 => 0x3F6EE295#32
  | 63 => 0x3F75669A#32
  | 64 => 0x3F7BEAA0#32
  | 65 => 0x3F7DB252#32
  | 66 => 0x3F77869C#32
  | 67 => 0x3F715AE5#32
  | 68 => 0x3F6B2F2F#32
  | 69 => 0x3F650378#32
  | 70 => 0x3F5ED7C2#32
  | 71 => 0x3F58AC0B#32
  | 72 => 0x3F528055#32
  | 73 => 0x3F4C549F#32
  | 74 => 0x3F4628E8#32
  | 75 => 0x3F3FFD32#32
  | 76 => 0x3F39D17B#32
  | 77 => 0x3F33A5C5#32
  | 78 => 0x3F2D7A0E#32
  | 79 => 0x3F274E58#32
  | 80 => 0x3F2122A1#32
  | 81 => 0x3F1AF6EB#32
  | 82 => 0x3F14CB35#32
  | 83 => 0x3F0E9F7E#32
  | 84 => 0x3F0873C8#32
  | 85 => 0x3F024811#32
  | 86 => 0x3EF838B6#32
  | 87 => 0x3EEBE149#32
  | 88 => 0x3EDF89DC#32
  | 89 => 0x3ED3326F#32
  | 90 => 0x3EC6DB02#32
  | 91 => 0x3EBA8395#32
  | 92 => 0x3EAE2C29#32
  | 93 => 0x3EA1D4BC#32
  | 94 => 0x3E957D4F#32
  | 95 => 0x3E8925E2#32
  | 96 => 0x3E799CEA#32
  | 97 => 0x3E60EE11#32
  | 98 => 0x3E483F37#32
  | 99 => 0x3E2F905D#32
  | 100 => 0x3E16E183#32
  | 101 => 0x3DFC6553#32
  | 102 => 0x3DCB07A0#32
  | 103 => 0x3D99A9EC#32
  | 104 => 0x3D509872#32
  | 105 => 0x3CDBBA15#32
  | 106 => 0x3B321A3C#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_48 (i : Nat) : BitVec 32 := match i % 128 with
  | 0 => 0x00000000#32
  | 1 => 0x00000000#32
  | 2 => 0x00000000#32
  | 3 => 0x00000000#32
  | 4 => 0x3C136B82#32
  | 5 => 0x3D079647#32
  | 6 => 0x3D6A51AE#32
  | 7 => 0x3DA6868B#32
  | 8 => 0x3DD7E43E#32
  | 9 => 0x3E04A0F9#32
  | 10 => 0x3E1D4FD3#32
  | 11 => 0x3E35FEAC#32
  | 12 => 0x3E4EAD86#32
  | 13 => 0x3E675C60#32
  | 14 => 0x3E80059D#32
  | 15 => 0x3E8C5D0A#32
  | 16 => 0x3E98B476#32
  | 17 => 0x3EA50BE3#32
  | 18 => 0x3EB16350#32
  | 19 => 0x3EBDBABD#32
  | 20 => 0x3ECA122A#32
  | 21 => 0x3ED66997#32
  | 22 => 0x3EE2C104#32
  | 23 => 0x3EEF1871#32
  | 24 => 0x3EFB6FDD#32
  | 25 => 0x3F03E3A5#32
  | 26 => 0x3F0A0F5C#32
  | 27 => 0x3F103B12#32
  | 28 => 0x3F1666C8#32
  | 29 => 0x3F1C927F#32
  | 30 => 0x3F22BE35#32
  | 31 => 0x3F28E9EC#32
  | 32 => 0x3F2F15A2#32
  | 33 => 0x3F354159#32
  | 34 => 0x3F3B6D0F#32
  | 35 => 0x3F4198C5#32
  | 36 => 0x3F47C47C#32
  | 37 => 0x3F4DF032#32
  | 38 => 0x3F541BE9#32
  | 39 => 0x3F5A479F#32
  | 40 => 0x3F607356#32
  | 41 => 0x3F669F0C#32
  | 42 => 0x3F6CCAC2#32
  | 43 => 0x3F72F679#32
  | 44 => 0x3F79222F#32
  | 45 => 0x3F7F4DE6#32
  | 46 => 0x3F7AD098#32
  | 47 => 0x3F74F883#32
  | 48 => 0x3F6F206F#32
  | 49 => 0x3F69485A#32
  | 50 => 0x3F637046#32
  | 51 => 0x3F5D9831#32
  | 52 => 0x3F57C01C#32
  | 53 => 0x3F51E808#32
  | 54 => 0x3F4C0FF3#32
  | 55 => 0x3F4637DF#32
  | 56 => 0x3F405FCA#32
  | 57 => 0x3F3A87B6#32
  | 58 => 0x3F34AFA1#32
  | 59 => 0x3F2ED78D#32
  | 60 => 0x3F28FF78#32
  | 61 => 0x3F232763#32
  | 62 => 0x3F1D4F4F#32
  | 63 => 0x3F17773A#32
  | 64 => 0x3F119F26#32
  | 65 => 0x3F0BC711#32
  | 66 => 0x3F05EEFD#32
  | 67 => 0x3F0016E8#32
  | 68 => 0x3EF47DA7#32
  | 69 => 0x3EE8CD7E#32
  | 70 => 0x3EDD1D55#32
  | 71 => 0x3ED16D2C#32
  | 72 => 0x3EC5BD02#32
  | 73 => 0x3EBA0CD9#32
  | 74 => 0x3EAE5CB0#32
  | 75 => 0x3EA2AC87#32
  | 76 => 0x3E96FC5E#32
  | 77 => 0x3E8B4C35#32
  | 78 => 0x3E7F3817#32
  | 79 => 0x3E67D7C5#32
  | 80 => 0x3E507773#32
  | 81 => 0x3E391720#32
  | 82 => 0x3E21B6CE#32
  | 83 => 0x3E0A567C#32
  | 84 => 0x3DE5EC53#32
  | 85 => 0x3DB72BAF#32
  | 86 => 0x3D886B0A#32
  | 87 => 0x3D3354CC#32
  | 88 => 0x3CABA706#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x3CA5ED05#32
  | 111 => 0x3D3077CC#32
  | 112 => 0x3D86FC8A#32
  | 113 => 0x3DB5BD2F#32
  | 114 => 0x3DE47DD3#32
  | 115 => 0x3E099F3C#32
  | 116 => 0x3E20FF8E#32
  | 117 => 0x3E385FE0#32
  | 118 => 0x3E4FC033#32
  | 119 => 0x3E672085#32
  | 120 => 0x3E7E80D7#32
  | 121 => 0x3E8AF095#32
  | 122 => 0x3E96A0BE#32
  | 123 => 0x3EA250E7#32
  | 124 => 0x3EAE0110#32
  | 125 => 0x3EB9B139#32
  | 126 => 0x3EC56162#32
  | 127 => 0x3ED1118B#32
  | _ => 0#32

noncomputable abbrev lit0t0_49 (i : Nat) : BitVec 32 := match i % 128 with
  | 0 => 0x3EDCC1B5#32
  | 1 => 0x3EE871DE#32
  | 2 => 0x3EF42207#32
  | 3 => 0x3EFFD230#32
  | 4 => 0x3F05C12D#32
  | 5 => 0x3F0B9941#32
  | 6 => 0x3F117156#32
  | 7 => 0x3F17496A#32
  | 8 => 0x3F1D217F#32
  | 9 => 0x3F22F993#32
  | 10 => 0x3F28D1A8#32
  | 11 => 0x3F2EA9BD#32
  | 12 => 0x3F3481D1#32
  | 13 => 0x3F3A59E6#32
  | 14 => 0x3F4031FA#32
  | 15 => 0x3F460A0F#32
  | 16 => 0x3F4BE223#32
  | 17 => 0x3F51BA38#32
  | 18 => 0x3F57924C#32
  | 19 => 0x3F5D6A61#32
  | 20 => 0x3F634276#32
  | 21 => 0x3F691A8A#32
  | 22 => 0x3F6EF29F#32
  | 23 => 0x3F74CAB3#32
  | 24 => 0x3F7AA2C8#32
  | 25 => 0x3F7F8BA5#32
  | 26 => 0x3F7A02C5#32
  | 27 => 0x3F7479E4#32
  | 28 => 0x3F6EF104#32
  | 29 => 0x3F696824#32
  | 30 => 0x3F63DF44#32
  | 31 => 0x3F5E5664#32
  | 32 => 0x3F58CD84#32
  | 33 => 0x3F5344A3#32
  | 34 => 0x3F4DBBC3#32
  | 35 => 0x3F4832E3#32
  | 36 => 0x3F42AA03#32
  | 37 => 0x3F3D2123#32
  | 38 => 0x3F379843#32
  | 39 => 0x3F320F62#32
  | 40 => 0x3F2C8682#32
  | 41 => 0x3F26FDA2#32
  | 42 => 0x3F2174C2#32
  | 43 => 0x3F1BEBE2#32
  | 44 => 0x3F166302#32
  | 45 => 0x3F10DA21#32
  | 46 => 0x3F0B5141#32
  | 47 => 0x3F05C861#32
  | 48 => 0x3F003F81#32
  | 49 => 0x3EF56D42#32
  | 50 => 0x3EEA5B81#32
  | 51 => 0x3EDF49C1#32
  | 52 => 0x3ED43801#32
  | 53 => 0x3EC92640#32
  | 54 => 0x3EBE1480#32
  | 55 => 0x3EB302C0#32
  | 56 => 0x3EA7F0FF#32
  | 57 => 0x3E9CDF3F#32
  | 58 => 0x3E91CD7F#32
  | 59 => 0x3E86BBBE#32
  | 60 => 0x3E7753FC#32
  | 61 => 0x3E61307B#32
  | 62 => 0x3E4B0CFB#32
  | 63 => 0x3E34E97A#32
  | 64 => 0x3E1EC5F9#32
  | 65 => 0x3E08A279#32
  | 66 => 0x3DE4FDF0#32
  | 67 => 0x3DB8B6EF#32
  | 68 => 0x3D8C6FED#32
  | 69 => 0x3D4051D8#32
  | 70 => 0x3CCF87AB#32
  | 71 => 0x3B735D2D#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x3AE8B682#32
  | 89 => 0x3CBFA76D#32
  | 90 => 0x3D3861B9#32
  | 91 => 0x3D8877DE#32
  | 92 => 0x3DB4BEDF#32
  | 93 => 0x3DE105E1#32
  | 94 => 0x3E06A671#32
  | 95 => 0x3E1CC9F2#32
  | 96 => 0x3E32ED72#32
  | 97 => 0x3E4910F3#32
  | 98 => 0x3E5F3474#32
  | 99 => 0x3E7557F4#32
  | 100 => 0x3E85BDBA#32
  | 101 => 0x3E90CF7B#32
  | 102 => 0x3E9BE13B#32
  | 103 => 0x3EA6F2FB#32
  | 104 => 0x3EB204BC#32
  | 105 => 0x3EBD167C#32
  | 106 => 0x3EC8283C#32
  | 107 => 0x3ED339FD#32
  | 108 => 0x3EDE4BBD#32
  | 109 => 0x3EE95D7D#32
  | 110 => 0x3EF46F3E#32
  | 111 => 0x3EFF80FE#32
  | 112 => 0x3F05495F#32
  | 113 => 0x3F0AD23F#32
  | 114 => 0x3F105B20#32
  | 115 => 0x3F15E400#32
  | 116 => 0x3F1B6CE0#32
  | 117 => 0x3F20F5C0#32
  | 118 => 0x3F267EA0#32
  | 119 => 0x3F2C0780#32
  | 120 => 0x3F319061#32
  | 121 => 0x3F371941#32
  | 122 => 0x3F3CA221#32
  | 123 => 0x3F422B01#32
  | 124 => 0x3F47B3E1#32
  | 125 => 0x3F4D3CC1#32
  | 126 => 0x3F52C5A2#32
  | 127 => 0x3F584E82#32
  | _ => 0#32

noncomputable abbrev lit0t0_50 (i : Nat) : BitVec 32 := match i % 128 with
  | 0 => 0x3F5DD762#32
  | 1 => 0x3F636042#32
  | 2 => 0x3F68E922#32
  | 3 => 0x3F6E7202#32
  | 4 => 0x3F73FAE2#32
  | 5 => 0x3F7983C3#32
  | 6 => 0x3F7F0CA3#32
  | 7 => 0x3F7BA89E#32
  | 8 => 0x3F766AC0#32
  | 9 => 0x3F712CE3#32
  | 10 => 0x3F6BEF06#32
  | 11 => 0x3F66B129#32
  | 12 => 0x3F61734B#32
  | 13 => 0x3F5C356E#32
  | 14 => 0x3F56F791#32
  | 15 => 0x3F51B9B4#32
  | 16 => 0x3F4C7BD7#32
  | 17 => 0x3F473DF9#32
  | 18 => 0x3F42001C#32
  | 19 => 0x3F3CC23F#32
  | 20 => 0x3F378462#32
  | 21 => 0x3F324684#32
  | 22 => 0x3F2D08A7#32
  | 23 => 0x3F27CACA#32
  | 24 => 0x3F228CED#32
  | 25 => 0x3F1D4F10#32
  | 26 => 0x3F181132#32
  | 27 => 0x3F12D355#32
  | 28 => 0x3F0D9578#32
  | 29 => 0x3F08579B#32
  | 30 => 0x3F0319BD#32
  | 31 => 0x3EFBB7C0#32
  | 32 => 0x3EF13C06#32
  | 33 => 0x3EE6C04B#32
  | 34 => 0x3EDC4491#32
  | 35 => 0x3ED1C8D7#32
  | 36 => 0x3EC74D1C#32
  | 37 => 0x3EBCD162#32
  | 38 => 0x3EB255A7#32
  | 39 => 0x3EA7D9ED#32
  | 40 => 0x3E9D5E32#32
  | 41 => 0x3E92E278#32
  | 42 => 0x3E8866BD#32
  | 43 => 0x3E7BD606#32
  | 44 => 0x3E66DE91#32
  | 45 => 0x3E51E71C#32
  | 46 => 0x3E3CEFA7#32
  | 47 => 0x3E27F832#32
  | 48 => 0x3E1300BD#32
  | 49 => 0x3DFC1291#32
  | 50 => 0x3DD223A7#32
  | 51 => 0x3DA834BD#32
  | 52 => 0x3D7C8BA6#32
  | 53 => 0x3D28ADD2#32
  | 54 => 0x3CA99FFE#32
  | 55 => 0x39722B34#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x3C8AEC4C#32
  | 67 => 0x3D1953FA#32
  | 68 => 0x3D6D31CD#32
  | 69 => 0x3DA087D0#32
  | 70 => 0x3DCA76BA#32
  | 71 => 0x3DF465A4#32
  | 72 => 0x3E0F2A47#32
  | 73 => 0x3E2421BC#32
  | 74 => 0x3E391931#32
  | 75 => 0x3E4E10A6#32
  | 76 => 0x3E63081B#32
  | 77 => 0x3E77FF8F#32
  | 78 => 0x3E867B82#32
  | 79 => 0x3E90F73D#32
  | 80 => 0x3E9B72F7#32
  | 81 => 0x3EA5EEB2#32
  | 82 => 0x3EB06A6C#32
  | 83 => 0x3EBAE626#32
  | 84 => 0x3EC561E1#32
  | 85 => 0x3ECFDD9B#32
  | 86 => 0x3EDA5956#32
  | 87 => 0x3EE4D510#32
  | 88 => 0x3EEF50CB#32
  | 89 => 0x3EF9CC85#32
  | 90 => 0x3F022420#32
  | 91 => 0x3F0761FD#32
  | 92 => 0x3F0C9FDA#32
  | 93 => 0x3F11DDB8#32
  | 94 => 0x3F171B95#32
  | 95 => 0x3F1C5972#32
  | 96 => 0x3F21974F#32
  | 97 => 0x3F26D52C#32
  | 98 => 0x3F2C130A#32
  | 99 => 0x3F3150E7#32
  | 100 => 0x3F368EC4#32
  | 101 => 0x3F3BCCA1#32
  | 102 => 0x3F410A7F#32
  | 103 => 0x3F46485C#32
  | 104 => 0x3F4B8639#32
  | 105 => 0x3F50C416#32
  | 106 => 0x3F5601F3#32
  | 107 => 0x3F5B3FD1#32
  | 108 => 0x3F607DAE#32
  | 109 => 0x3F65BB8B#32
  | 110 => 0x3F6AF968#32
  | 111 => 0x3F703746#32
  | 112 => 0x3F757523#32
  | 113 => 0x3F7AB300#32
  | 114 => 0x3F7FF0DD#32
  | 115 => 0x3F7B1783#32
  | 116 => 0x3F7620B0#32
  | 117 => 0x3F7129DD#32
  | 118 => 0x3F6C330A#32
  | 119 => 0x3F673C37#32
  | 120 => 0x3F624564#32
  | 121 => 0x3F5D4E91#32
  | 122 => 0x3F5857BE#32
  | 123 => 0x3F5360EB#32
  | 124 => 0x3F4E6A18#32
  | 125 => 0x3F497345#32
  | 126 => 0x3F447C72#32
  | 127 => 0x3F3F85A0#32
  | _ => 0#32

noncomputable abbrev lit0t0_51 (i : Nat) : BitVec 32 := match i % 128 with
  | 0 => 0x3F3A8ECD#32
  | 1 => 0x3F3597FA#32
  | 2 => 0x3F30A127#32
  | 3 => 0x3F2BAA54#32
  | 4 => 0x3F26B381#32
  | 5 => 0x3F21BCAE#32
  | 6 => 0x3F1CC5DB#32
  | 7 => 0x3F17CF08#32
  | 8 => 0x3F12D835#32
  | 9 => 0x3F0DE162#32
  | 10 => 0x3F08EA8F#32
  | 11 => 0x3F03F3BD#32
  | 12 => 0x3EFDF9D3#32
  | 13 => 0x3EF40C2D#32
  | 14 => 0x3EEA1E87#32
  | 15 => 0x3EE030E2#32
  | 16 => 0x3ED6433C#32
  | 17 => 0x3ECC5596#32
  | 18 => 0x3EC267F0#32
  | 19 => 0x3EB87A4A#32
  | 20 => 0x3EAE8CA4#32
  | 21 => 0x3EA49EFF#32
  | 22 => 0x3E9AB159#32
  | 23 => 0x3E90C3B3#32
  | 24 => 0x3E86D60D#32
  | 25 => 0x3E79D0CE#32
  | 26 => 0x3E65F583#32
  | 27 => 0x3E521A37#32
  | 28 => 0x3E3E3EEB#32
  | 29 => 0x3E2A63A0#32
  | 30 => 0x3E168854#32
  | 31 => 0x3E02AD08#32
  | 32 => 0x3DDDA379#32
  | 33 => 0x3DB5ECE2#32
  | 34 => 0x3D8E364A#32
  | 35 => 0x3D4CFF66#32
  | 36 => 0x3CFB246E#32
  | 37 => 0x3C389421#32
  | 38 => 0x00000000#32
  | 39 => 0x00000000#32
  | 40 => 0x00000000#32
  | 41 => 0x00000000#32
  | 42 => 0x00000000#32
  | 43 => 0x00000000#32
  | 44 => 0x3C9D0FAB#32
  | 45 => 0x3D1DF504#32
  | 46 => 0x3D6D6233#32
  | 47 => 0x3D9E67B1#32
  | 48 => 0x3DC61E48#32
  | 49 => 0x3DEDD4E0#32
  | 50 => 0x3E0AC5BC#32
  | 51 => 0x3E1EA107#32
  | 52 => 0x3E327C53#32
  | 53 => 0x3E46579F#32
  | 54 => 0x3E5A32EA#32
  | 55 => 0x3E6E0E36#32
  | 56 => 0x3E80F4C1#32
  | 57 => 0x3E8AE267#32
  | 58 => 0x3E94D00D#32
  | 59 => 0x3E9EBDB2#32
  | 60 => 0x3EA8AB58#32
  | 61 => 0x3EB298FE#32
  | 62 => 0x3EBC86A4#32
  | 63 => 0x3EC6744A#32
  | 64 => 0x3ED061F0#32
  | 65 => 0x3EDA4F95#32
  | 66 => 0x3EE43D3B#32
  | 67 => 0x3EEE2AE1#32
  | 68 => 0x3EF81887#32
  | 69 => 0x3F010316#32
  | 70 => 0x3F05F9E9#32
  | 71 => 0x3F0AF0BC#32
  | 72 => 0x3F0FE78F#32
  | 73 => 0x3F14DE62#32
  | 74 => 0x3F19D535#32
  | 75 => 0x3F1ECC08#32
  | 76 => 0x3F23C2DB#32
  | 77 => 0x3F28B9AE#32
  | 78 => 0x3F2DB081#32
  | 79 => 0x3F32A754#32
  | 80 => 0x3F379E27#32
  | 81 => 0x3F3C94F9#32
  | 82 => 0x3F418BCC#32
  | 83 => 0x3F46829F#32
  | 84 => 0x3F4B7972#32
  | 85 => 0x3F507045#32
  | 86 => 0x3F556718#32
  | 87 => 0x3F5A5DEB#32
  | 88 => 0x3F5F54BE#32
  | 89 => 0x3F644B91#32
  | 90 => 0x3F694264#32
  | 91 => 0x3F6E3937#32
  | 92 => 0x3F73300A#32
  | 93 => 0x3F7826DD#32
  | 94 => 0x3F7D1DAF#32
  | 95 => 0x3F7E07AF#32
  | 96 => 0x3F795423#32
  | 97 => 0x3F74A098#32
  | 98 => 0x3F6FED0C#32
  | 99 => 0x3F6B3981#32
  | 100 => 0x3F6685F6#32
  | 101 => 0x3F61D26A#32
  | 102 => 0x3F5D1EDF#32
  | 103 => 0x3F586B53#32
  | 104 => 0x3F53B7C8#32
  | 105 => 0x3F4F043C#32
  | 106 => 0x3F4A50B1#32
  | 107 => 0x3F459D26#32
  | 108 => 0x3F40E99A#32
  | 109 => 0x3F3C360F#32
  | 110 => 0x3F378283#32
  | 111 => 0x3F32CEF8#32
  | 112 => 0x3F2E1B6C#32
  | 113 => 0x3F2967E1#32
  | 114 => 0x3F24B456#32
  | 115 => 0x3F2000CA#32
  | 116 => 0x3F1B4D3F#32
  | 117 => 0x3F1699B3#32
  | 118 => 0x3F11E628#32
  | 119 => 0x3F0D329C#32
  | 120 => 0x3F087F11#32
  | 121 => 0x3F03CB86#32
  | 122 => 0x3EFE2FF4#32
  | 123 => 0x3EF4C8DD#32
  | 124 => 0x3EEB61C7#32
  | 125 => 0x3EE1FAB0#32
  | 126 => 0x3ED89399#32
  | 127 => 0x3ECF2C82#32
  | _ => 0#32

noncomputable abbrev lit0t0_52 (i : Nat) : BitVec 32 := match i % 128 with
  | 0 => 0x3EC5C56B#32
  | 1 => 0x3EBC5E54#32
  | 2 => 0x3EB2F73E#32
  | 3 => 0x3EA99027#32
  | 4 => 0x3EA02910#32
  | 5 => 0x3E96C1F9#32
  | 6 => 0x3E8D5AE2#32
  | 7 => 0x3E83F3CB#32
  | 8 => 0x3E751969#32
  | 9 => 0x3E624B3B#32
  | 10 => 0x3E4F7D0D#32
  | 11 => 0x3E3CAEE0#32
  | 12 => 0x3E29E0B2#32
  | 13 => 0x3E171284#32
  | 14 => 0x3E044457#32
  | 15 => 0x3DE2EC52#32
  | 16 => 0x3DBD4FF6#32
  | 17 => 0x3D97B39B#32
  | 18 => 0x3D642E7F#32
  | 19 => 0x3D18F5C8#32
  | 20 => 0x3C9B7A22#32
  | 21 => 0x3A211691#32
  | 22 => 0x3BFC28A6#32
  | 23 => 0x3CD57B97#32
  | 24 => 0x3D35F682#32
  | 25 => 0x3D80979D#32
  | 26 => 0x3DA633F8#32
  | 27 => 0x3DCBD053#32
  | 28 => 0x3DF16CAF#32
  | 29 => 0x3E0B8485#32
  | 30 => 0x3E1E52B3#32
  | 31 => 0x3E3120E1#32
  | 32 => 0x3E43EF0E#32
  | 33 => 0x3E56BD3C#32
  | 34 => 0x3E698B6A#32
  | 35 => 0x3E7C5997#32
  | 36 => 0x3E8793E3#32
  | 37 => 0x3E90FAF9#32
  | 38 => 0x3E9A6210#32
  | 39 => 0x3EA3C927#32
  | 40 => 0x3EAD303E#32
  | 41 => 0x3EB69755#32
  | 42 => 0x3EBFFE6C#32
  | 43 => 0x3EC96583#32
  | 44 => 0x3ED2CC99#32
  | 45 => 0x3EDC33B0#32
  | 46 => 0x3EE59AC7#32
  | 47 => 0x3EEF01DE#32
  | 48 => 0x3EF868F5#32
  | 49 => 0x3F00E806#32
  | 50 => 0x3F059B91#32
  | 51 => 0x3F0A4F1D#32
  | 52 => 0x3F0F02A8#32
  | 53 => 0x3F13B634#32
  | 54 => 0x3F1869BF#32
  | 55 => 0x3F1D1D4A#32
  | 56 => 0x3F21D0D6#32
  | 57 => 0x3F268461#32
  | 58 => 0x3F2B37ED#32
  | 59 => 0x3F2FEB78#32
  | 60 => 0x3F349F04#32
  | 61 => 0x3F39528F#32
  | 62 => 0x3F3E061A#32
  | 63 => 0x3F42B9A6#32
  | 64 => 0x3F476D31#32
  | 65 => 0x3F4C20BD#32
  | 66 => 0x3F50D448#32
  | 67 => 0x3F5587D4#32
  | 68 => 0x3F5A3B5F#32
  | 69 => 0x3F5EEEEA#32
  | 70 => 0x3F63A276#32
  | 71 => 0x3F685601#32
  | 72 => 0x3F6D098D#32
  | 73 => 0x3F71BD18#32
  | 74 => 0x3F7670A4#32
  | 75 => 0x3F7B242F#32
  | 76 => 0x3F7FD7BA#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | _ => 0#32

noncomputable abbrev lit0 : Fin 6784 → BitVec 32 := fun ⟨i, _⟩ => lit0t i

noncomputable abbrev lit1t0_0 (i : Nat) : BitVec 32 := match i % 128 with
  | 0 => 0x3F800000#32
  | 1 => 0x3F800000#32
  | 2 => 0x3F800000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x3F800000#32
  | 107 => 0x3F800000#32
  | 108 => 0x3F800000#32
  | 109 => 0x3F800000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_1 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x3F800000#32
  | 85 => 0x3F800000#32
  | 86 => 0x3F800000#32
  | 87 => 0x3F800000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_2 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x3F800000#32
  | 63 => 0x3F800000#32
  | 64 => 0x3F800000#32
  | 65 => 0x3F800000#32
  | 66 => 0x3F800000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_3 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x3F800000#32
  | 41 => 0x3F800000#32
  | 42 => 0x3F800000#32
  | 43 => 0x3F800000#32
  | 44 => 0x3F800000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_4 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x3F800000#32
  | 19 => 0x3F800000#32
  | 20 => 0x3F800000#32
  | 21 => 0x3F800000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x3F800000#32
  | 125 => 0x3F800000#32
  | 126 => 0x3F800000#32
  | 127 => 0x3F800000#32
  | _ => 0#32

noncomputable abbrev lit1t0_5 (i : Nat) : BitVec 32 := match i % 128 with
  | 0 => 0x3F800000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x3F800000#32
  | 103 => 0x3F800000#32
  | 104 => 0x3F800000#32
  | 105 => 0x3F800000#32
  | 106 => 0x3F800000#32
  | 107 => 0x3F800000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_6 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x3F800000#32
  | 81 => 0x3F800000#32
  | 82 => 0x3F800000#32
  | 83 => 0x3F800000#32
  | 84 => 0x3F800000#32
  | 85 => 0x3F800000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_7 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x3F800000#32
  | 59 => 0x3F800000#32
  | 60 => 0x3F800000#32
  | 61 => 0x3F800000#32
  | 62 => 0x3F800000#32
  | 63 => 0x3F800000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_8 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x3F800000#32
  | 37 => 0x3F800000#32
  | 38 => 0x3F800000#32
  | 39 => 0x3F800000#32
  | 40 => 0x3F800000#32
  | 41 => 0x3F800000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_9 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x3F800000#32
  | 15 => 0x3F800000#32
  | 16 => 0x3F800000#32
  | 17 => 0x3F800000#32
  | 18 => 0x3F800000#32
  | 19 => 0x3F800000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x00000000#32
  | _ => 0#32

noncomputable abbrev lit1t0_10 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_11 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_12 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_13 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_14 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x00000000#32
  | 127 => 0x00000000#32
  | _ => 0#32

noncomputable abbrev lit1t0_15 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_16 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_17 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_18 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_19 (i : Nat) : BitVec 32 := match i % 128 with
  | 0 => 0x00000000#32
  | 1 => 0x00000000#32
  | 2 => 0x00000000#32
  | 3 => 0x00000000#32
  | 4 => 0x00000000#32
  | 5 => 0x00000000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x00000000#32
  | 126 => 0x00000000#32
  | 127 => 0x00000000#32
  | _ => 0#32

noncomputable abbrev lit1t0_20 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_21 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_22 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_23 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_24 (i : Nat) : BitVec 32 := match i % 128 with
  | 0 => 0x00000000#32
  | 1 => 0x00000000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x00000000#32
  | 127 => 0x00000000#32
  | _ => 0#32

noncomputable abbrev lit1t0_25 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_26 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_27 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_28 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x3F800000#32
  | 127 => 0x3F800000#32
  | _ => 0#32

noncomputable abbrev lit1t0_29 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_30 (i : Nat) : BitVec 32 := match i % 128 with
  | 0 => 0x3F800000#32
  | 1 => 0x3F800000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_31 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_32 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_33 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_34 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_35 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_36 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_37 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_38 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_39 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_40 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x00000000#32
  | 127 => 0x00000000#32
  | _ => 0#32

noncomputable abbrev lit1t0_41 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_42 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_43 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_44 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_45 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_46 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x00000000#32
  | 125 => 0x00000000#32
  | 126 => 0x00000000#32
  | 127 => 0x00000000#32
  | _ => 0#32

noncomputable abbrev lit1t0_47 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t0_48 (i : Nat) : BitVec 32 := match i % 128 with
  | 0 => 0x00000000#32
  | 1 => 0x00000000#32
  | 2 => 0x00000000#32
  | 3 => 0x00000000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_49 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_50 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_51 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x00000000#32
  | 39 => 0x00000000#32
  | 40 => 0x00000000#32
  | 41 => 0x00000000#32
  | 42 => 0x00000000#32
  | 43 => 0x00000000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit1t0_52 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | 16 => lit1t0_16 i
  | 17 => lit1t0_17 i
  | 18 => lit1t0_18 i
  | 19 => lit1t0_19 i
  | 20 => lit1t0_20 i
  | 21 => lit1t0_21 i
  | 22 => lit1t0_22 i
  | 23 => lit1t0_23 i
  | 24 => lit1t0_24 i
  | 25 => lit1t0_25 i
  | 26 => lit1t0_26 i
  | 27 => lit1t0_27 i
  | 28 => lit1t0_28 i
  | 29 => lit1t0_29 i
  | 30 => lit1t0_30 i
  | 31 => lit1t0_31 i
  | 32 => lit1t0_32 i
  | 33 => lit1t0_33 i
  | 34 => lit1t0_34 i
  | 35 => lit1t0_35 i
  | 36 => lit1t0_36 i
  | 37 => lit1t0_37 i
  | 38 => lit1t0_38 i
  | 39 => lit1t0_39 i
  | 40 => lit1t0_40 i
  | 41 => lit1t0_41 i
  | 42 => lit1t0_42 i
  | 43 => lit1t0_43 i
  | 44 => lit1t0_44 i
  | 45 => lit1t0_45 i
  | 46 => lit1t0_46 i
  | 47 => lit1t0_47 i
  | 48 => lit1t0_48 i
  | 49 => lit1t0_49 i
  | 50 => lit1t0_50 i
  | 51 => lit1t0_51 i
  | 52 => lit1t0_52 i
  | _ => 0#32

noncomputable abbrev lit1 : Fin 6784 → BitVec 32 := fun ⟨i, _⟩ => lit1t i

noncomputable abbrev lit2t0_0 (i : Nat) : BitVec 32 := match i % 128 with
  | 0 => 0#32
  | 1 => 1#32
  | 2 => 2#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1#32
  | 107 => 2#32
  | 108 => 3#32
  | 109 => 4#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_1 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 3#32
  | 85 => 4#32
  | 86 => 5#32
  | 87 => 6#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_2 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 5#32
  | 63 => 6#32
  | 64 => 7#32
  | 65 => 8#32
  | 66 => 9#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_3 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 7#32
  | 41 => 8#32
  | 42 => 9#32
  | 43 => 10#32
  | 44 => 11#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_4 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 10#32
  | 19 => 11#32
  | 20 => 12#32
  | 21 => 13#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 12#32
  | 125 => 13#32
  | 126 => 14#32
  | 127 => 15#32
  | _ => 0#32

noncomputable abbrev lit2t0_5 (i : Nat) : BitVec 32 := match i % 128 with
  | 0 => 16#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 14#32
  | 103 => 15#32
  | 104 => 16#32
  | 105 => 17#32
  | 106 => 18#32
  | 107 => 19#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_6 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 17#32
  | 81 => 18#32
  | 82 => 19#32
  | 83 => 20#32
  | 84 => 21#32
  | 85 => 22#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_7 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 20#32
  | 59 => 21#32
  | 60 => 22#32
  | 61 => 23#32
  | 62 => 24#32
  | 63 => 25#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_8 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 23#32
  | 37 => 24#32
  | 38 => 25#32
  | 39 => 26#32
  | 40 => 27#32
  | 41 => 28#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_9 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 26#32
  | 15 => 27#32
  | 16 => 28#32
  | 17 => 29#32
  | 18 => 30#32
  | 19 => 31#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 29#32
  | 121 => 30#32
  | 122 => 31#32
  | 123 => 32#32
  | 124 => 33#32
  | 125 => 34#32
  | 126 => 35#32
  | 127 => 1024#32
  | _ => 0#32

noncomputable abbrev lit2t0_10 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 32#32
  | 99 => 33#32
  | 100 => 34#32
  | 101 => 35#32
  | 102 => 36#32
  | 103 => 37#32
  | 104 => 38#32
  | 105 => 39#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_11 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 36#32
  | 77 => 37#32
  | 78 => 38#32
  | 79 => 39#32
  | 80 => 40#32
  | 81 => 41#32
  | 82 => 42#32
  | 83 => 43#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_12 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 40#32
  | 55 => 41#32
  | 56 => 42#32
  | 57 => 43#32
  | 58 => 44#32
  | 59 => 45#32
  | 60 => 46#32
  | 61 => 47#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_13 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 44#32
  | 33 => 45#32
  | 34 => 46#32
  | 35 => 47#32
  | 36 => 48#32
  | 37 => 49#32
  | 38 => 50#32
  | 39 => 51#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_14 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 48#32
  | 11 => 49#32
  | 12 => 50#32
  | 13 => 51#32
  | 14 => 52#32
  | 15 => 53#32
  | 16 => 54#32
  | 17 => 55#32
  | 18 => 56#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 52#32
  | 117 => 53#32
  | 118 => 54#32
  | 119 => 55#32
  | 120 => 56#32
  | 121 => 57#32
  | 122 => 58#32
  | 123 => 59#32
  | 124 => 60#32
  | 125 => 61#32
  | 126 => 1024#32
  | 127 => 1024#32
  | _ => 0#32

noncomputable abbrev lit2t0_15 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 57#32
  | 95 => 58#32
  | 96 => 59#32
  | 97 => 60#32
  | 98 => 61#32
  | 99 => 62#32
  | 100 => 63#32
  | 101 => 64#32
  | 102 => 65#32
  | 103 => 66#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_16 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 62#32
  | 73 => 63#32
  | 74 => 64#32
  | 75 => 65#32
  | 76 => 66#32
  | 77 => 67#32
  | 78 => 68#32
  | 79 => 69#32
  | 80 => 70#32
  | 81 => 71#32
  | 82 => 72#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_17 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 67#32
  | 51 => 68#32
  | 52 => 69#32
  | 53 => 70#32
  | 54 => 71#32
  | 55 => 72#32
  | 56 => 73#32
  | 57 => 74#32
  | 58 => 75#32
  | 59 => 76#32
  | 60 => 77#32
  | 61 => 78#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_18 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 73#32
  | 29 => 74#32
  | 30 => 75#32
  | 31 => 76#32
  | 32 => 77#32
  | 33 => 78#32
  | 34 => 79#32
  | 35 => 80#32
  | 36 => 81#32
  | 37 => 82#32
  | 38 => 83#32
  | 39 => 84#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_19 (i : Nat) : BitVec 32 := match i % 128 with
  | 0 => 1024#32
  | 1 => 1024#32
  | 2 => 1024#32
  | 3 => 1024#32
  | 4 => 1024#32
  | 5 => 1024#32
  | 6 => 79#32
  | 7 => 80#32
  | 8 => 81#32
  | 9 => 82#32
  | 10 => 83#32
  | 11 => 84#32
  | 12 => 85#32
  | 13 => 86#32
  | 14 => 87#32
  | 15 => 88#32
  | 16 => 89#32
  | 17 => 90#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 85#32
  | 113 => 86#32
  | 114 => 87#32
  | 115 => 88#32
  | 116 => 89#32
  | 117 => 90#32
  | 118 => 91#32
  | 119 => 92#32
  | 120 => 93#32
  | 121 => 94#32
  | 122 => 95#32
  | 123 => 96#32
  | 124 => 97#32
  | 125 => 1024#32
  | 126 => 1024#32
  | 127 => 1024#32
  | _ => 0#32

noncomputable abbrev lit2t0_20 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 91#32
  | 91 => 92#32
  | 92 => 93#32
  | 93 => 94#32
  | 94 => 95#32
  | 95 => 96#32
  | 96 => 97#32
  | 97 => 98#32
  | 98 => 99#32
  | 99 => 100#32
  | 100 => 101#32
  | 101 => 102#32
  | 102 => 103#32
  | 103 => 104#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_21 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 98#32
  | 69 => 99#32
  | 70 => 100#32
  | 71 => 101#32
  | 72 => 102#32
  | 73 => 103#32
  | 74 => 104#32
  | 75 => 105#32
  | 76 => 106#32
  | 77 => 107#32
  | 78 => 108#32
  | 79 => 109#32
  | 80 => 110#32
  | 81 => 111#32
  | 82 => 112#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_22 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 105#32
  | 47 => 106#32
  | 48 => 107#32
  | 49 => 108#32
  | 50 => 109#32
  | 51 => 110#32
  | 52 => 111#32
  | 53 => 112#32
  | 54 => 113#32
  | 55 => 114#32
  | 56 => 115#32
  | 57 => 116#32
  | 58 => 117#32
  | 59 => 118#32
  | 60 => 119#32
  | 61 => 120#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_23 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 113#32
  | 25 => 114#32
  | 26 => 115#32
  | 27 => 116#32
  | 28 => 117#32
  | 29 => 118#32
  | 30 => 119#32
  | 31 => 120#32
  | 32 => 121#32
  | 33 => 122#32
  | 34 => 123#32
  | 35 => 124#32
  | 36 => 125#32
  | 37 => 126#32
  | 38 => 127#32
  | 39 => 128#32
  | 40 => 129#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_24 (i : Nat) : BitVec 32 := match i % 128 with
  | 0 => 1024#32
  | 1 => 1024#32
  | 2 => 121#32
  | 3 => 122#32
  | 4 => 123#32
  | 5 => 124#32
  | 6 => 125#32
  | 7 => 126#32
  | 8 => 127#32
  | 9 => 128#32
  | 10 => 129#32
  | 11 => 130#32
  | 12 => 131#32
  | 13 => 132#32
  | 14 => 133#32
  | 15 => 134#32
  | 16 => 135#32
  | 17 => 136#32
  | 18 => 137#32
  | 19 => 138#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 130#32
  | 109 => 131#32
  | 110 => 132#32
  | 111 => 133#32
  | 112 => 134#32
  | 113 => 135#32
  | 114 => 136#32
  | 115 => 137#32
  | 116 => 138#32
  | 117 => 139#32
  | 118 => 140#32
  | 119 => 141#32
  | 120 => 142#32
  | 121 => 143#32
  | 122 => 144#32
  | 123 => 145#32
  | 124 => 146#32
  | 125 => 147#32
  | 126 => 1024#32
  | 127 => 1024#32
  | _ => 0#32

noncomputable abbrev lit2t0_25 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 139#32
  | 87 => 140#32
  | 88 => 141#32
  | 89 => 142#32
  | 90 => 143#32
  | 91 => 144#32
  | 92 => 145#32
  | 93 => 146#32
  | 94 => 147#32
  | 95 => 148#32
  | 96 => 149#32
  | 97 => 150#32
  | 98 => 151#32
  | 99 => 152#32
  | 100 => 153#32
  | 101 => 154#32
  | 102 => 155#32
  | 103 => 156#32
  | 104 => 157#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_26 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 148#32
  | 65 => 149#32
  | 66 => 150#32
  | 67 => 151#32
  | 68 => 152#32
  | 69 => 153#32
  | 70 => 154#32
  | 71 => 155#32
  | 72 => 156#32
  | 73 => 157#32
  | 74 => 158#32
  | 75 => 159#32
  | 76 => 160#32
  | 77 => 161#32
  | 78 => 162#32
  | 79 => 163#32
  | 80 => 164#32
  | 81 => 165#32
  | 82 => 166#32
  | 83 => 167#32
  | 84 => 168#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_27 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 158#32
  | 43 => 159#32
  | 44 => 160#32
  | 45 => 161#32
  | 46 => 162#32
  | 47 => 163#32
  | 48 => 164#32
  | 49 => 165#32
  | 50 => 166#32
  | 51 => 167#32
  | 52 => 168#32
  | 53 => 169#32
  | 54 => 170#32
  | 55 => 171#32
  | 56 => 172#32
  | 57 => 173#32
  | 58 => 174#32
  | 59 => 175#32
  | 60 => 176#32
  | 61 => 177#32
  | 62 => 178#32
  | 63 => 179#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_28 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 169#32
  | 21 => 170#32
  | 22 => 171#32
  | 23 => 172#32
  | 24 => 173#32
  | 25 => 174#32
  | 26 => 175#32
  | 27 => 176#32
  | 28 => 177#32
  | 29 => 178#32
  | 30 => 179#32
  | 31 => 180#32
  | 32 => 181#32
  | 33 => 182#32
  | 34 => 183#32
  | 35 => 184#32
  | 36 => 185#32
  | 37 => 186#32
  | 38 => 187#32
  | 39 => 188#32
  | 40 => 189#32
  | 41 => 190#32
  | 42 => 191#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 180#32
  | 127 => 181#32
  | _ => 0#32

noncomputable abbrev lit2t0_29 (i : Nat) : BitVec 32 := match i % 128 with
  | 0 => 182#32
  | 1 => 183#32
  | 2 => 184#32
  | 3 => 185#32
  | 4 => 186#32
  | 5 => 187#32
  | 6 => 188#32
  | 7 => 189#32
  | 8 => 190#32
  | 9 => 191#32
  | 10 => 192#32
  | 11 => 193#32
  | 12 => 194#32
  | 13 => 195#32
  | 14 => 196#32
  | 15 => 197#32
  | 16 => 198#32
  | 17 => 199#32
  | 18 => 200#32
  | 19 => 201#32
  | 20 => 202#32
  | 21 => 203#32
  | 22 => 204#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 192#32
  | 105 => 193#32
  | 106 => 194#32
  | 107 => 195#32
  | 108 => 196#32
  | 109 => 197#32
  | 110 => 198#32
  | 111 => 199#32
  | 112 => 200#32
  | 113 => 201#32
  | 114 => 202#32
  | 115 => 203#32
  | 116 => 204#32
  | 117 => 205#32
  | 118 => 206#32
  | 119 => 207#32
  | 120 => 208#32
  | 121 => 209#32
  | 122 => 210#32
  | 123 => 211#32
  | 124 => 212#32
  | 125 => 213#32
  | 126 => 214#32
  | 127 => 215#32
  | _ => 0#32

noncomputable abbrev lit2t0_30 (i : Nat) : BitVec 32 := match i % 128 with
  | 0 => 216#32
  | 1 => 217#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 205#32
  | 83 => 206#32
  | 84 => 207#32
  | 85 => 208#32
  | 86 => 209#32
  | 87 => 210#32
  | 88 => 211#32
  | 89 => 212#32
  | 90 => 213#32
  | 91 => 214#32
  | 92 => 215#32
  | 93 => 216#32
  | 94 => 217#32
  | 95 => 218#32
  | 96 => 219#32
  | 97 => 220#32
  | 98 => 221#32
  | 99 => 222#32
  | 100 => 223#32
  | 101 => 224#32
  | 102 => 225#32
  | 103 => 226#32
  | 104 => 227#32
  | 105 => 228#32
  | 106 => 229#32
  | 107 => 230#32
  | 108 => 231#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_31 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 218#32
  | 61 => 219#32
  | 62 => 220#32
  | 63 => 221#32
  | 64 => 222#32
  | 65 => 223#32
  | 66 => 224#32
  | 67 => 225#32
  | 68 => 226#32
  | 69 => 227#32
  | 70 => 228#32
  | 71 => 229#32
  | 72 => 230#32
  | 73 => 231#32
  | 74 => 232#32
  | 75 => 233#32
  | 76 => 234#32
  | 77 => 235#32
  | 78 => 236#32
  | 79 => 237#32
  | 80 => 238#32
  | 81 => 239#32
  | 82 => 240#32
  | 83 => 241#32
  | 84 => 242#32
  | 85 => 243#32
  | 86 => 244#32
  | 87 => 245#32
  | 88 => 246#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_32 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 232#32
  | 39 => 233#32
  | 40 => 234#32
  | 41 => 235#32
  | 42 => 236#32
  | 43 => 237#32
  | 44 => 238#32
  | 45 => 239#32
  | 46 => 240#32
  | 47 => 241#32
  | 48 => 242#32
  | 49 => 243#32
  | 50 => 244#32
  | 51 => 245#32
  | 52 => 246#32
  | 53 => 247#32
  | 54 => 248#32
  | 55 => 249#32
  | 56 => 250#32
  | 57 => 251#32
  | 58 => 252#32
  | 59 => 253#32
  | 60 => 254#32
  | 61 => 255#32
  | 62 => 256#32
  | 63 => 257#32
  | 64 => 258#32
  | 65 => 259#32
  | 66 => 260#32
  | 67 => 261#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_33 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 247#32
  | 17 => 248#32
  | 18 => 249#32
  | 19 => 250#32
  | 20 => 251#32
  | 21 => 252#32
  | 22 => 253#32
  | 23 => 254#32
  | 24 => 255#32
  | 25 => 256#32
  | 26 => 257#32
  | 27 => 258#32
  | 28 => 259#32
  | 29 => 260#32
  | 30 => 261#32
  | 31 => 262#32
  | 32 => 263#32
  | 33 => 264#32
  | 34 => 265#32
  | 35 => 266#32
  | 36 => 267#32
  | 37 => 268#32
  | 38 => 269#32
  | 39 => 270#32
  | 40 => 271#32
  | 41 => 272#32
  | 42 => 273#32
  | 43 => 274#32
  | 44 => 275#32
  | 45 => 276#32
  | 46 => 277#32
  | 47 => 278#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 262#32
  | 123 => 263#32
  | 124 => 264#32
  | 125 => 265#32
  | 126 => 266#32
  | 127 => 267#32
  | _ => 0#32

noncomputable abbrev lit2t0_34 (i : Nat) : BitVec 32 := match i % 128 with
  | 0 => 268#32
  | 1 => 269#32
  | 2 => 270#32
  | 3 => 271#32
  | 4 => 272#32
  | 5 => 273#32
  | 6 => 274#32
  | 7 => 275#32
  | 8 => 276#32
  | 9 => 277#32
  | 10 => 278#32
  | 11 => 279#32
  | 12 => 280#32
  | 13 => 281#32
  | 14 => 282#32
  | 15 => 283#32
  | 16 => 284#32
  | 17 => 285#32
  | 18 => 286#32
  | 19 => 287#32
  | 20 => 288#32
  | 21 => 289#32
  | 22 => 290#32
  | 23 => 291#32
  | 24 => 292#32
  | 25 => 293#32
  | 26 => 294#32
  | 27 => 295#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 279#32
  | 101 => 280#32
  | 102 => 281#32
  | 103 => 282#32
  | 104 => 283#32
  | 105 => 284#32
  | 106 => 285#32
  | 107 => 286#32
  | 108 => 287#32
  | 109 => 288#32
  | 110 => 289#32
  | 111 => 290#32
  | 112 => 291#32
  | 113 => 292#32
  | 114 => 293#32
  | 115 => 294#32
  | 116 => 295#32
  | 117 => 296#32
  | 118 => 297#32
  | 119 => 298#32
  | 120 => 299#32
  | 121 => 300#32
  | 122 => 301#32
  | 123 => 302#32
  | 124 => 303#32
  | 125 => 304#32
  | 126 => 305#32
  | 127 => 306#32
  | _ => 0#32

noncomputable abbrev lit2t0_35 (i : Nat) : BitVec 32 := match i % 128 with
  | 0 => 307#32
  | 1 => 308#32
  | 2 => 309#32
  | 3 => 310#32
  | 4 => 311#32
  | 5 => 312#32
  | 6 => 313#32
  | 7 => 314#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 296#32
  | 79 => 297#32
  | 80 => 298#32
  | 81 => 299#32
  | 82 => 300#32
  | 83 => 301#32
  | 84 => 302#32
  | 85 => 303#32
  | 86 => 304#32
  | 87 => 305#32
  | 88 => 306#32
  | 89 => 307#32
  | 90 => 308#32
  | 91 => 309#32
  | 92 => 310#32
  | 93 => 311#32
  | 94 => 312#32
  | 95 => 313#32
  | 96 => 314#32
  | 97 => 315#32
  | 98 => 316#32
  | 99 => 317#32
  | 100 => 318#32
  | 101 => 319#32
  | 102 => 320#32
  | 103 => 321#32
  | 104 => 322#32
  | 105 => 323#32
  | 106 => 324#32
  | 107 => 325#32
  | 108 => 326#32
  | 109 => 327#32
  | 110 => 328#32
  | 111 => 329#32
  | 112 => 330#32
  | 113 => 331#32
  | 114 => 332#32
  | 115 => 333#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_36 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 315#32
  | 57 => 316#32
  | 58 => 317#32
  | 59 => 318#32
  | 60 => 319#32
  | 61 => 320#32
  | 62 => 321#32
  | 63 => 322#32
  | 64 => 323#32
  | 65 => 324#32
  | 66 => 325#32
  | 67 => 326#32
  | 68 => 327#32
  | 69 => 328#32
  | 70 => 329#32
  | 71 => 330#32
  | 72 => 331#32
  | 73 => 332#32
  | 74 => 333#32
  | 75 => 334#32
  | 76 => 335#32
  | 77 => 336#32
  | 78 => 337#32
  | 79 => 338#32
  | 80 => 339#32
  | 81 => 340#32
  | 82 => 341#32
  | 83 => 342#32
  | 84 => 343#32
  | 85 => 344#32
  | 86 => 345#32
  | 87 => 346#32
  | 88 => 347#32
  | 89 => 348#32
  | 90 => 349#32
  | 91 => 350#32
  | 92 => 351#32
  | 93 => 352#32
  | 94 => 353#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_37 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 334#32
  | 35 => 335#32
  | 36 => 336#32
  | 37 => 337#32
  | 38 => 338#32
  | 39 => 339#32
  | 40 => 340#32
  | 41 => 341#32
  | 42 => 342#32
  | 43 => 343#32
  | 44 => 344#32
  | 45 => 345#32
  | 46 => 346#32
  | 47 => 347#32
  | 48 => 348#32
  | 49 => 349#32
  | 50 => 350#32
  | 51 => 351#32
  | 52 => 352#32
  | 53 => 353#32
  | 54 => 354#32
  | 55 => 355#32
  | 56 => 356#32
  | 57 => 357#32
  | 58 => 358#32
  | 59 => 359#32
  | 60 => 360#32
  | 61 => 361#32
  | 62 => 362#32
  | 63 => 363#32
  | 64 => 364#32
  | 65 => 365#32
  | 66 => 366#32
  | 67 => 367#32
  | 68 => 368#32
  | 69 => 369#32
  | 70 => 370#32
  | 71 => 371#32
  | 72 => 372#32
  | 73 => 373#32
  | 74 => 374#32
  | 75 => 375#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_38 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 354#32
  | 13 => 355#32
  | 14 => 356#32
  | 15 => 357#32
  | 16 => 358#32
  | 17 => 359#32
  | 18 => 360#32
  | 19 => 361#32
  | 20 => 362#32
  | 21 => 363#32
  | 22 => 364#32
  | 23 => 365#32
  | 24 => 366#32
  | 25 => 367#32
  | 26 => 368#32
  | 27 => 369#32
  | 28 => 370#32
  | 29 => 371#32
  | 30 => 372#32
  | 31 => 373#32
  | 32 => 374#32
  | 33 => 375#32
  | 34 => 376#32
  | 35 => 377#32
  | 36 => 378#32
  | 37 => 379#32
  | 38 => 380#32
  | 39 => 381#32
  | 40 => 382#32
  | 41 => 383#32
  | 42 => 384#32
  | 43 => 385#32
  | 44 => 386#32
  | 45 => 387#32
  | 46 => 388#32
  | 47 => 389#32
  | 48 => 390#32
  | 49 => 391#32
  | 50 => 392#32
  | 51 => 393#32
  | 52 => 394#32
  | 53 => 395#32
  | 54 => 396#32
  | 55 => 397#32
  | 56 => 398#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 376#32
  | 119 => 377#32
  | 120 => 378#32
  | 121 => 379#32
  | 122 => 380#32
  | 123 => 381#32
  | 124 => 382#32
  | 125 => 383#32
  | 126 => 384#32
  | 127 => 385#32
  | _ => 0#32

noncomputable abbrev lit2t0_39 (i : Nat) : BitVec 32 := match i % 128 with
  | 0 => 386#32
  | 1 => 387#32
  | 2 => 388#32
  | 3 => 389#32
  | 4 => 390#32
  | 5 => 391#32
  | 6 => 392#32
  | 7 => 393#32
  | 8 => 394#32
  | 9 => 395#32
  | 10 => 396#32
  | 11 => 397#32
  | 12 => 398#32
  | 13 => 399#32
  | 14 => 400#32
  | 15 => 401#32
  | 16 => 402#32
  | 17 => 403#32
  | 18 => 404#32
  | 19 => 405#32
  | 20 => 406#32
  | 21 => 407#32
  | 22 => 408#32
  | 23 => 409#32
  | 24 => 410#32
  | 25 => 411#32
  | 26 => 412#32
  | 27 => 413#32
  | 28 => 414#32
  | 29 => 415#32
  | 30 => 416#32
  | 31 => 417#32
  | 32 => 418#32
  | 33 => 419#32
  | 34 => 420#32
  | 35 => 421#32
  | 36 => 422#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 399#32
  | 97 => 400#32
  | 98 => 401#32
  | 99 => 402#32
  | 100 => 403#32
  | 101 => 404#32
  | 102 => 405#32
  | 103 => 406#32
  | 104 => 407#32
  | 105 => 408#32
  | 106 => 409#32
  | 107 => 410#32
  | 108 => 411#32
  | 109 => 412#32
  | 110 => 413#32
  | 111 => 414#32
  | 112 => 415#32
  | 113 => 416#32
  | 114 => 417#32
  | 115 => 418#32
  | 116 => 419#32
  | 117 => 420#32
  | 118 => 421#32
  | 119 => 422#32
  | 120 => 423#32
  | 121 => 424#32
  | 122 => 425#32
  | 123 => 426#32
  | 124 => 427#32
  | 125 => 428#32
  | 126 => 429#32
  | 127 => 430#32
  | _ => 0#32

noncomputable abbrev lit2t0_40 (i : Nat) : BitVec 32 := match i % 128 with
  | 0 => 431#32
  | 1 => 432#32
  | 2 => 433#32
  | 3 => 434#32
  | 4 => 435#32
  | 5 => 436#32
  | 6 => 437#32
  | 7 => 438#32
  | 8 => 439#32
  | 9 => 440#32
  | 10 => 441#32
  | 11 => 442#32
  | 12 => 443#32
  | 13 => 444#32
  | 14 => 445#32
  | 15 => 446#32
  | 16 => 447#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 423#32
  | 75 => 424#32
  | 76 => 425#32
  | 77 => 426#32
  | 78 => 427#32
  | 79 => 428#32
  | 80 => 429#32
  | 81 => 430#32
  | 82 => 431#32
  | 83 => 432#32
  | 84 => 433#32
  | 85 => 434#32
  | 86 => 435#32
  | 87 => 436#32
  | 88 => 437#32
  | 89 => 438#32
  | 90 => 439#32
  | 91 => 440#32
  | 92 => 441#32
  | 93 => 442#32
  | 94 => 443#32
  | 95 => 444#32
  | 96 => 445#32
  | 97 => 446#32
  | 98 => 447#32
  | 99 => 448#32
  | 100 => 449#32
  | 101 => 450#32
  | 102 => 451#32
  | 103 => 452#32
  | 104 => 453#32
  | 105 => 454#32
  | 106 => 455#32
  | 107 => 456#32
  | 108 => 457#32
  | 109 => 458#32
  | 110 => 459#32
  | 111 => 460#32
  | 112 => 461#32
  | 113 => 462#32
  | 114 => 463#32
  | 115 => 464#32
  | 116 => 465#32
  | 117 => 466#32
  | 118 => 467#32
  | 119 => 468#32
  | 120 => 469#32
  | 121 => 470#32
  | 122 => 471#32
  | 123 => 472#32
  | 124 => 473#32
  | 125 => 474#32
  | 126 => 1024#32
  | 127 => 1024#32
  | _ => 0#32

noncomputable abbrev lit2t0_41 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 448#32
  | 53 => 449#32
  | 54 => 450#32
  | 55 => 451#32
  | 56 => 452#32
  | 57 => 453#32
  | 58 => 454#32
  | 59 => 455#32
  | 60 => 456#32
  | 61 => 457#32
  | 62 => 458#32
  | 63 => 459#32
  | 64 => 460#32
  | 65 => 461#32
  | 66 => 462#32
  | 67 => 463#32
  | 68 => 464#32
  | 69 => 465#32
  | 70 => 466#32
  | 71 => 467#32
  | 72 => 468#32
  | 73 => 469#32
  | 74 => 470#32
  | 75 => 471#32
  | 76 => 472#32
  | 77 => 473#32
  | 78 => 474#32
  | 79 => 475#32
  | 80 => 476#32
  | 81 => 477#32
  | 82 => 478#32
  | 83 => 479#32
  | 84 => 480#32
  | 85 => 481#32
  | 86 => 482#32
  | 87 => 483#32
  | 88 => 484#32
  | 89 => 485#32
  | 90 => 486#32
  | 91 => 487#32
  | 92 => 488#32
  | 93 => 489#32
  | 94 => 490#32
  | 95 => 491#32
  | 96 => 492#32
  | 97 => 493#32
  | 98 => 494#32
  | 99 => 495#32
  | 100 => 496#32
  | 101 => 497#32
  | 102 => 498#32
  | 103 => 499#32
  | 104 => 500#32
  | 105 => 501#32
  | 106 => 502#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_42 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 475#32
  | 31 => 476#32
  | 32 => 477#32
  | 33 => 478#32
  | 34 => 479#32
  | 35 => 480#32
  | 36 => 481#32
  | 37 => 482#32
  | 38 => 483#32
  | 39 => 484#32
  | 40 => 485#32
  | 41 => 486#32
  | 42 => 487#32
  | 43 => 488#32
  | 44 => 489#32
  | 45 => 490#32
  | 46 => 491#32
  | 47 => 492#32
  | 48 => 493#32
  | 49 => 494#32
  | 50 => 495#32
  | 51 => 496#32
  | 52 => 497#32
  | 53 => 498#32
  | 54 => 499#32
  | 55 => 500#32
  | 56 => 501#32
  | 57 => 502#32
  | 58 => 503#32
  | 59 => 504#32
  | 60 => 505#32
  | 61 => 506#32
  | 62 => 507#32
  | 63 => 508#32
  | 64 => 509#32
  | 65 => 510#32
  | 66 => 511#32
  | 67 => 512#32
  | 68 => 513#32
  | 69 => 514#32
  | 70 => 515#32
  | 71 => 516#32
  | 72 => 517#32
  | 73 => 518#32
  | 74 => 519#32
  | 75 => 520#32
  | 76 => 521#32
  | 77 => 522#32
  | 78 => 523#32
  | 79 => 524#32
  | 80 => 525#32
  | 81 => 526#32
  | 82 => 527#32
  | 83 => 528#32
  | 84 => 529#32
  | 85 => 530#32
  | 86 => 531#32
  | 87 => 532#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_43 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 503#32
  | 9 => 504#32
  | 10 => 505#32
  | 11 => 506#32
  | 12 => 507#32
  | 13 => 508#32
  | 14 => 509#32
  | 15 => 510#32
  | 16 => 511#32
  | 17 => 512#32
  | 18 => 513#32
  | 19 => 514#32
  | 20 => 515#32
  | 21 => 516#32
  | 22 => 517#32
  | 23 => 518#32
  | 24 => 519#32
  | 25 => 520#32
  | 26 => 521#32
  | 27 => 522#32
  | 28 => 523#32
  | 29 => 524#32
  | 30 => 525#32
  | 31 => 526#32
  | 32 => 527#32
  | 33 => 528#32
  | 34 => 529#32
  | 35 => 530#32
  | 36 => 531#32
  | 37 => 532#32
  | 38 => 533#32
  | 39 => 534#32
  | 40 => 535#32
  | 41 => 536#32
  | 42 => 537#32
  | 43 => 538#32
  | 44 => 539#32
  | 45 => 540#32
  | 46 => 541#32
  | 47 => 542#32
  | 48 => 543#32
  | 49 => 544#32
  | 50 => 545#32
  | 51 => 546#32
  | 52 => 547#32
  | 53 => 548#32
  | 54 => 549#32
  | 55 => 550#32
  | 56 => 551#32
  | 57 => 552#32
  | 58 => 553#32
  | 59 => 554#32
  | 60 => 555#32
  | 61 => 556#32
  | 62 => 557#32
  | 63 => 558#32
  | 64 => 559#32
  | 65 => 560#32
  | 66 => 561#32
  | 67 => 562#32
  | 68 => 563#32
  | 69 => 564#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 533#32
  | 115 => 534#32
  | 116 => 535#32
  | 117 => 536#32
  | 118 => 537#32
  | 119 => 538#32
  | 120 => 539#32
  | 121 => 540#32
  | 122 => 541#32
  | 123 => 542#32
  | 124 => 543#32
  | 125 => 544#32
  | 126 => 545#32
  | 127 => 546#32
  | _ => 0#32

noncomputable abbrev lit2t0_44 (i : Nat) : BitVec 32 := match i % 128 with
  | 0 => 547#32
  | 1 => 548#32
  | 2 => 549#32
  | 3 => 550#32
  | 4 => 551#32
  | 5 => 552#32
  | 6 => 553#32
  | 7 => 554#32
  | 8 => 555#32
  | 9 => 556#32
  | 10 => 557#32
  | 11 => 558#32
  | 12 => 559#32
  | 13 => 560#32
  | 14 => 561#32
  | 15 => 562#32
  | 16 => 563#32
  | 17 => 564#32
  | 18 => 565#32
  | 19 => 566#32
  | 20 => 567#32
  | 21 => 568#32
  | 22 => 569#32
  | 23 => 570#32
  | 24 => 571#32
  | 25 => 572#32
  | 26 => 573#32
  | 27 => 574#32
  | 28 => 575#32
  | 29 => 576#32
  | 30 => 577#32
  | 31 => 578#32
  | 32 => 579#32
  | 33 => 580#32
  | 34 => 581#32
  | 35 => 582#32
  | 36 => 583#32
  | 37 => 584#32
  | 38 => 585#32
  | 39 => 586#32
  | 40 => 587#32
  | 41 => 588#32
  | 42 => 589#32
  | 43 => 590#32
  | 44 => 591#32
  | 45 => 592#32
  | 46 => 593#32
  | 47 => 594#32
  | 48 => 595#32
  | 49 => 596#32
  | 50 => 597#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 1024#32
  | 71 => 1024#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 1024#32
  | 89 => 1024#32
  | 90 => 1024#32
  | 91 => 1024#32
  | 92 => 565#32
  | 93 => 566#32
  | 94 => 567#32
  | 95 => 568#32
  | 96 => 569#32
  | 97 => 570#32
  | 98 => 571#32
  | 99 => 572#32
  | 100 => 573#32
  | 101 => 574#32
  | 102 => 575#32
  | 103 => 576#32
  | 104 => 577#32
  | 105 => 578#32
  | 106 => 579#32
  | 107 => 580#32
  | 108 => 581#32
  | 109 => 582#32
  | 110 => 583#32
  | 111 => 584#32
  | 112 => 585#32
  | 113 => 586#32
  | 114 => 587#32
  | 115 => 588#32
  | 116 => 589#32
  | 117 => 590#32
  | 118 => 591#32
  | 119 => 592#32
  | 120 => 593#32
  | 121 => 594#32
  | 122 => 595#32
  | 123 => 596#32
  | 124 => 597#32
  | 125 => 598#32
  | 126 => 599#32
  | 127 => 600#32
  | _ => 0#32

noncomputable abbrev lit2t0_45 (i : Nat) : BitVec 32 := match i % 128 with
  | 0 => 601#32
  | 1 => 602#32
  | 2 => 603#32
  | 3 => 604#32
  | 4 => 605#32
  | 5 => 606#32
  | 6 => 607#32
  | 7 => 608#32
  | 8 => 609#32
  | 9 => 610#32
  | 10 => 611#32
  | 11 => 612#32
  | 12 => 613#32
  | 13 => 614#32
  | 14 => 615#32
  | 15 => 616#32
  | 16 => 617#32
  | 17 => 618#32
  | 18 => 619#32
  | 19 => 620#32
  | 20 => 621#32
  | 21 => 622#32
  | 22 => 623#32
  | 23 => 624#32
  | 24 => 625#32
  | 25 => 626#32
  | 26 => 627#32
  | 27 => 628#32
  | 28 => 629#32
  | 29 => 630#32
  | 30 => 631#32
  | 31 => 632#32
  | 32 => 633#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 1024#32
  | 49 => 1024#32
  | 50 => 1024#32
  | 51 => 1024#32
  | 52 => 1024#32
  | 53 => 1024#32
  | 54 => 1024#32
  | 55 => 1024#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 1024#32
  | 67 => 1024#32
  | 68 => 1024#32
  | 69 => 1024#32
  | 70 => 598#32
  | 71 => 599#32
  | 72 => 600#32
  | 73 => 601#32
  | 74 => 602#32
  | 75 => 603#32
  | 76 => 604#32
  | 77 => 605#32
  | 78 => 606#32
  | 79 => 607#32
  | 80 => 608#32
  | 81 => 609#32
  | 82 => 610#32
  | 83 => 611#32
  | 84 => 612#32
  | 85 => 613#32
  | 86 => 614#32
  | 87 => 615#32
  | 88 => 616#32
  | 89 => 617#32
  | 90 => 618#32
  | 91 => 619#32
  | 92 => 620#32
  | 93 => 621#32
  | 94 => 622#32
  | 95 => 623#32
  | 96 => 624#32
  | 97 => 625#32
  | 98 => 626#32
  | 99 => 627#32
  | 100 => 628#32
  | 101 => 629#32
  | 102 => 630#32
  | 103 => 631#32
  | 104 => 632#32
  | 105 => 633#32
  | 106 => 634#32
  | 107 => 635#32
  | 108 => 636#32
  | 109 => 637#32
  | 110 => 638#32
  | 111 => 639#32
  | 112 => 640#32
  | 113 => 641#32
  | 114 => 642#32
  | 115 => 643#32
  | 116 => 644#32
  | 117 => 645#32
  | 118 => 646#32
  | 119 => 647#32
  | 120 => 648#32
  | 121 => 649#32
  | 122 => 650#32
  | 123 => 651#32
  | 124 => 652#32
  | 125 => 653#32
  | 126 => 654#32
  | 127 => 655#32
  | _ => 0#32

noncomputable abbrev lit2t0_46 (i : Nat) : BitVec 32 := match i % 128 with
  | 0 => 656#32
  | 1 => 657#32
  | 2 => 658#32
  | 3 => 659#32
  | 4 => 660#32
  | 5 => 661#32
  | 6 => 662#32
  | 7 => 663#32
  | 8 => 664#32
  | 9 => 665#32
  | 10 => 666#32
  | 11 => 667#32
  | 12 => 668#32
  | 13 => 669#32
  | 14 => 670#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 1024#32
  | 27 => 1024#32
  | 28 => 1024#32
  | 29 => 1024#32
  | 30 => 1024#32
  | 31 => 1024#32
  | 32 => 1024#32
  | 33 => 1024#32
  | 34 => 1024#32
  | 35 => 1024#32
  | 36 => 1024#32
  | 37 => 1024#32
  | 38 => 1024#32
  | 39 => 1024#32
  | 40 => 1024#32
  | 41 => 1024#32
  | 42 => 1024#32
  | 43 => 1024#32
  | 44 => 1024#32
  | 45 => 1024#32
  | 46 => 1024#32
  | 47 => 1024#32
  | 48 => 634#32
  | 49 => 635#32
  | 50 => 636#32
  | 51 => 637#32
  | 52 => 638#32
  | 53 => 639#32
  | 54 => 640#32
  | 55 => 641#32
  | 56 => 642#32
  | 57 => 643#32
  | 58 => 644#32
  | 59 => 645#32
  | 60 => 646#32
  | 61 => 647#32
  | 62 => 648#32
  | 63 => 649#32
  | 64 => 650#32
  | 65 => 651#32
  | 66 => 652#32
  | 67 => 653#32
  | 68 => 654#32
  | 69 => 655#32
  | 70 => 656#32
  | 71 => 657#32
  | 72 => 658#32
  | 73 => 659#32
  | 74 => 660#32
  | 75 => 661#32
  | 76 => 662#32
  | 77 => 663#32
  | 78 => 664#32
  | 79 => 665#32
  | 80 => 666#32
  | 81 => 667#32
  | 82 => 668#32
  | 83 => 669#32
  | 84 => 670#32
  | 85 => 671#32
  | 86 => 672#32
  | 87 => 673#32
  | 88 => 674#32
  | 89 => 675#32
  | 90 => 676#32
  | 91 => 677#32
  | 92 => 678#32
  | 93 => 679#32
  | 94 => 680#32
  | 95 => 681#32
  | 96 => 682#32
  | 97 => 683#32
  | 98 => 684#32
  | 99 => 685#32
  | 100 => 686#32
  | 101 => 687#32
  | 102 => 688#32
  | 103 => 689#32
  | 104 => 690#32
  | 105 => 691#32
  | 106 => 692#32
  | 107 => 693#32
  | 108 => 694#32
  | 109 => 695#32
  | 110 => 696#32
  | 111 => 697#32
  | 112 => 698#32
  | 113 => 699#32
  | 114 => 700#32
  | 115 => 701#32
  | 116 => 702#32
  | 117 => 703#32
  | 118 => 704#32
  | 119 => 705#32
  | 120 => 706#32
  | 121 => 707#32
  | 122 => 708#32
  | 123 => 709#32
  | 124 => 1024#32
  | 125 => 1024#32
  | 126 => 1024#32
  | 127 => 1024#32
  | _ => 0#32

noncomputable abbrev lit2t0_47 (i : Nat) : BitVec 32 := match i % 128 with
  | 0 => 1024#32
  | 1 => 1024#32
  | 2 => 1024#32
  | 3 => 1024#32
  | 4 => 1024#32
  | 5 => 1024#32
  | 6 => 1024#32
  | 7 => 1024#32
  | 8 => 1024#32
  | 9 => 1024#32
  | 10 => 1024#32
  | 11 => 1024#32
  | 12 => 1024#32
  | 13 => 1024#32
  | 14 => 1024#32
  | 15 => 1024#32
  | 16 => 1024#32
  | 17 => 1024#32
  | 18 => 1024#32
  | 19 => 1024#32
  | 20 => 1024#32
  | 21 => 1024#32
  | 22 => 1024#32
  | 23 => 1024#32
  | 24 => 1024#32
  | 25 => 1024#32
  | 26 => 671#32
  | 27 => 672#32
  | 28 => 673#32
  | 29 => 674#32
  | 30 => 675#32
  | 31 => 676#32
  | 32 => 677#32
  | 33 => 678#32
  | 34 => 679#32
  | 35 => 680#32
  | 36 => 681#32
  | 37 => 682#32
  | 38 => 683#32
  | 39 => 684#32
  | 40 => 685#32
  | 41 => 686#32
  | 42 => 687#32
  | 43 => 688#32
  | 44 => 689#32
  | 45 => 690#32
  | 46 => 691#32
  | 47 => 692#32
  | 48 => 693#32
  | 49 => 694#32
  | 50 => 695#32
  | 51 => 696#32
  | 52 => 697#32
  | 53 => 698#32
  | 54 => 699#32
  | 55 => 700#32
  | 56 => 701#32
  | 57 => 702#32
  | 58 => 703#32
  | 59 => 704#32
  | 60 => 705#32
  | 61 => 706#32
  | 62 => 707#32
  | 63 => 708#32
  | 64 => 709#32
  | 65 => 710#32
  | 66 => 711#32
  | 67 => 712#32
  | 68 => 713#32
  | 69 => 714#32
  | 70 => 715#32
  | 71 => 716#32
  | 72 => 717#32
  | 73 => 718#32
  | 74 => 719#32
  | 75 => 720#32
  | 76 => 721#32
  | 77 => 722#32
  | 78 => 723#32
  | 79 => 724#32
  | 80 => 725#32
  | 81 => 726#32
  | 82 => 727#32
  | 83 => 728#32
  | 84 => 729#32
  | 85 => 730#32
  | 86 => 731#32
  | 87 => 732#32
  | 88 => 733#32
  | 89 => 734#32
  | 90 => 735#32
  | 91 => 736#32
  | 92 => 737#32
  | 93 => 738#32
  | 94 => 739#32
  | 95 => 740#32
  | 96 => 741#32
  | 97 => 742#32
  | 98 => 743#32
  | 99 => 744#32
  | 100 => 745#32
  | 101 => 746#32
  | 102 => 747#32
  | 103 => 748#32
  | 104 => 749#32
  | 105 => 750#32
  | 106 => 751#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t0_48 (i : Nat) : BitVec 32 := match i % 128 with
  | 0 => 1024#32
  | 1 => 1024#32
  | 2 => 1024#32
  | 3 => 1024#32
  | 4 => 710#32
  | 5 => 711#32
  | 6 => 712#32
  | 7 => 713#32
  | 8 => 714#32
  | 9 => 715#32
  | 10 => 716#32
  | 11 => 717#32
  | 12 => 718#32
  | 13 => 719#32
  | 14 => 720#32
  | 15 => 721#32
  | 16 => 722#32
  | 17 => 723#32
  | 18 => 724#32
  | 19 => 725#32
  | 20 => 726#32
  | 21 => 727#32
  | 22 => 728#32
  | 23 => 729#32
  | 24 => 730#32
  | 25 => 731#32
  | 26 => 732#32
  | 27 => 733#32
  | 28 => 734#32
  | 29 => 735#32
  | 30 => 736#32
  | 31 => 737#32
  | 32 => 738#32
  | 33 => 739#32
  | 34 => 740#32
  | 35 => 741#32
  | 36 => 742#32
  | 37 => 743#32
  | 38 => 744#32
  | 39 => 745#32
  | 40 => 746#32
  | 41 => 747#32
  | 42 => 748#32
  | 43 => 749#32
  | 44 => 750#32
  | 45 => 751#32
  | 46 => 752#32
  | 47 => 753#32
  | 48 => 754#32
  | 49 => 755#32
  | 50 => 756#32
  | 51 => 757#32
  | 52 => 758#32
  | 53 => 759#32
  | 54 => 760#32
  | 55 => 761#32
  | 56 => 762#32
  | 57 => 763#32
  | 58 => 764#32
  | 59 => 765#32
  | 60 => 766#32
  | 61 => 767#32
  | 62 => 768#32
  | 63 => 769#32
  | 64 => 770#32
  | 65 => 771#32
  | 66 => 772#32
  | 67 => 773#32
  | 68 => 774#32
  | 69 => 775#32
  | 70 => 776#32
  | 71 => 777#32
  | 72 => 778#32
  | 73 => 779#32
  | 74 => 780#32
  | 75 => 781#32
  | 76 => 782#32
  | 77 => 783#32
  | 78 => 784#32
  | 79 => 785#32
  | 80 => 786#32
  | 81 => 787#32
  | 82 => 788#32
  | 83 => 789#32
  | 84 => 790#32
  | 85 => 791#32
  | 86 => 792#32
  | 87 => 793#32
  | 88 => 794#32
  | 89 => 1024#32
  | 90 => 1024#32
  | 91 => 1024#32
  | 92 => 1024#32
  | 93 => 1024#32
  | 94 => 1024#32
  | 95 => 1024#32
  | 96 => 1024#32
  | 97 => 1024#32
  | 98 => 1024#32
  | 99 => 1024#32
  | 100 => 1024#32
  | 101 => 1024#32
  | 102 => 1024#32
  | 103 => 1024#32
  | 104 => 1024#32
  | 105 => 1024#32
  | 106 => 1024#32
  | 107 => 1024#32
  | 108 => 1024#32
  | 109 => 1024#32
  | 110 => 752#32
  | 111 => 753#32
  | 112 => 754#32
  | 113 => 755#32
  | 114 => 756#32
  | 115 => 757#32
  | 116 => 758#32
  | 117 => 759#32
  | 118 => 760#32
  | 119 => 761#32
  | 120 => 762#32
  | 121 => 763#32
  | 122 => 764#32
  | 123 => 765#32
  | 124 => 766#32
  | 125 => 767#32
  | 126 => 768#32
  | 127 => 769#32
  | _ => 0#32

noncomputable abbrev lit2t0_49 (i : Nat) : BitVec 32 := match i % 128 with
  | 0 => 770#32
  | 1 => 771#32
  | 2 => 772#32
  | 3 => 773#32
  | 4 => 774#32
  | 5 => 775#32
  | 6 => 776#32
  | 7 => 777#32
  | 8 => 778#32
  | 9 => 779#32
  | 10 => 780#32
  | 11 => 781#32
  | 12 => 782#32
  | 13 => 783#32
  | 14 => 784#32
  | 15 => 785#32
  | 16 => 786#32
  | 17 => 787#32
  | 18 => 788#32
  | 19 => 789#32
  | 20 => 790#32
  | 21 => 791#32
  | 22 => 792#32
  | 23 => 793#32
  | 24 => 794#32
  | 25 => 795#32
  | 26 => 796#32
  | 27 => 797#32
  | 28 => 798#32
  | 29 => 799#32
  | 30 => 800#32
  | 31 => 801#32
  | 32 => 802#32
  | 33 => 803#32
  | 34 => 804#32
  | 35 => 805#32
  | 36 => 806#32
  | 37 => 807#32
  | 38 => 808#32
  | 39 => 809#32
  | 40 => 810#32
  | 41 => 811#32
  | 42 => 812#32
  | 43 => 813#32
  | 44 => 814#32
  | 45 => 815#32
  | 46 => 816#32
  | 47 => 817#32
  | 48 => 818#32
  | 49 => 819#32
  | 50 => 820#32
  | 51 => 821#32
  | 52 => 822#32
  | 53 => 823#32
  | 54 => 824#32
  | 55 => 825#32
  | 56 => 826#32
  | 57 => 827#32
  | 58 => 828#32
  | 59 => 829#32
  | 60 => 830#32
  | 61 => 831#32
  | 62 => 832#32
  | 63 => 833#32
  | 64 => 834#32
  | 65 => 835#32
  | 66 => 836#32
  | 67 => 837#32
  | 68 => 838#32
  | 69 => 839#32
  | 70 => 840#32
  | 71 => 841#32
  | 72 => 1024#32
  | 73 => 1024#32
  | 74 => 1024#32
  | 75 => 1024#32
  | 76 => 1024#32
  | 77 => 1024#32
  | 78 => 1024#32
  | 79 => 1024#32
  | 80 => 1024#32
  | 81 => 1024#32
  | 82 => 1024#32
  | 83 => 1024#32
  | 84 => 1024#32
  | 85 => 1024#32
  | 86 => 1024#32
  | 87 => 1024#32
  | 88 => 795#32
  | 89 => 796#32
  | 90 => 797#32
  | 91 => 798#32
  | 92 => 799#32
  | 93 => 800#32
  | 94 => 801#32
  | 95 => 802#32
  | 96 => 803#32
  | 97 => 804#32
  | 98 => 805#32
  | 99 => 806#32
  | 100 => 807#32
  | 101 => 808#32
  | 102 => 809#32
  | 103 => 810#32
  | 104 => 811#32
  | 105 => 812#32
  | 106 => 813#32
  | 107 => 814#32
  | 108 => 815#32
  | 109 => 816#32
  | 110 => 817#32
  | 111 => 818#32
  | 112 => 819#32
  | 113 => 820#32
  | 114 => 821#32
  | 115 => 822#32
  | 116 => 823#32
  | 117 => 824#32
  | 118 => 825#32
  | 119 => 826#32
  | 120 => 827#32
  | 121 => 828#32
  | 122 => 829#32
  | 123 => 830#32
  | 124 => 831#32
  | 125 => 832#32
  | 126 => 833#32
  | 127 => 834#32
  | _ => 0#32

noncomputable abbrev lit2t0_50 (i : Nat) : BitVec 32 := match i % 128 with
  | 0 => 835#32
  | 1 => 836#32
  | 2 => 837#32
  | 3 => 838#32
  | 4 => 839#32
  | 5 => 840#32
  | 6 => 841#32
  | 7 => 842#32
  | 8 => 843#32
  | 9 => 844#32
  | 10 => 845#32
  | 11 => 846#32
  | 12 => 847#32
  | 13 => 848#32
  | 14 => 849#32
  | 15 => 850#32
  | 16 => 851#32
  | 17 => 852#32
  | 18 => 853#32
  | 19 => 854#32
  | 20 => 855#32
  | 21 => 856#32
  | 22 => 857#32
  | 23 => 858#32
  | 24 => 859#32
  | 25 => 860#32
  | 26 => 861#32
  | 27 => 862#32
  | 28 => 863#32
  | 29 => 864#32
  | 30 => 865#32
  | 31 => 866#32
  | 32 => 867#32
  | 33 => 868#32
  | 34 => 869#32
  | 35 => 870#32
  | 36 => 871#32
  | 37 => 872#32
  | 38 => 873#32
  | 39 => 874#32
  | 40 => 875#32
  | 41 => 876#32
  | 42 => 877#32
  | 43 => 878#32
  | 44 => 879#32
  | 45 => 880#32
  | 46 => 881#32
  | 47 => 882#32
  | 48 => 883#32
  | 49 => 884#32
  | 50 => 885#32
  | 51 => 886#32
  | 52 => 887#32
  | 53 => 888#32
  | 54 => 889#32
  | 55 => 890#32
  | 56 => 1024#32
  | 57 => 1024#32
  | 58 => 1024#32
  | 59 => 1024#32
  | 60 => 1024#32
  | 61 => 1024#32
  | 62 => 1024#32
  | 63 => 1024#32
  | 64 => 1024#32
  | 65 => 1024#32
  | 66 => 842#32
  | 67 => 843#32
  | 68 => 844#32
  | 69 => 845#32
  | 70 => 846#32
  | 71 => 847#32
  | 72 => 848#32
  | 73 => 849#32
  | 74 => 850#32
  | 75 => 851#32
  | 76 => 852#32
  | 77 => 853#32
  | 78 => 854#32
  | 79 => 855#32
  | 80 => 856#32
  | 81 => 857#32
  | 82 => 858#32
  | 83 => 859#32
  | 84 => 860#32
  | 85 => 861#32
  | 86 => 862#32
  | 87 => 863#32
  | 88 => 864#32
  | 89 => 865#32
  | 90 => 866#32
  | 91 => 867#32
  | 92 => 868#32
  | 93 => 869#32
  | 94 => 870#32
  | 95 => 871#32
  | 96 => 872#32
  | 97 => 873#32
  | 98 => 874#32
  | 99 => 875#32
  | 100 => 876#32
  | 101 => 877#32
  | 102 => 878#32
  | 103 => 879#32
  | 104 => 880#32
  | 105 => 881#32
  | 106 => 882#32
  | 107 => 883#32
  | 108 => 884#32
  | 109 => 885#32
  | 110 => 886#32
  | 111 => 887#32
  | 112 => 888#32
  | 113 => 889#32
  | 114 => 890#32
  | 115 => 891#32
  | 116 => 892#32
  | 117 => 893#32
  | 118 => 894#32
  | 119 => 895#32
  | 120 => 896#32
  | 121 => 897#32
  | 122 => 898#32
  | 123 => 899#32
  | 124 => 900#32
  | 125 => 901#32
  | 126 => 902#32
  | 127 => 903#32
  | _ => 0#32

noncomputable abbrev lit2t0_51 (i : Nat) : BitVec 32 := match i % 128 with
  | 0 => 904#32
  | 1 => 905#32
  | 2 => 906#32
  | 3 => 907#32
  | 4 => 908#32
  | 5 => 909#32
  | 6 => 910#32
  | 7 => 911#32
  | 8 => 912#32
  | 9 => 913#32
  | 10 => 914#32
  | 11 => 915#32
  | 12 => 916#32
  | 13 => 917#32
  | 14 => 918#32
  | 15 => 919#32
  | 16 => 920#32
  | 17 => 921#32
  | 18 => 922#32
  | 19 => 923#32
  | 20 => 924#32
  | 21 => 925#32
  | 22 => 926#32
  | 23 => 927#32
  | 24 => 928#32
  | 25 => 929#32
  | 26 => 930#32
  | 27 => 931#32
  | 28 => 932#32
  | 29 => 933#32
  | 30 => 934#32
  | 31 => 935#32
  | 32 => 936#32
  | 33 => 937#32
  | 34 => 938#32
  | 35 => 939#32
  | 36 => 940#32
  | 37 => 941#32
  | 38 => 1024#32
  | 39 => 1024#32
  | 40 => 1024#32
  | 41 => 1024#32
  | 42 => 1024#32
  | 43 => 1024#32
  | 44 => 891#32
  | 45 => 892#32
  | 46 => 893#32
  | 47 => 894#32
  | 48 => 895#32
  | 49 => 896#32
  | 50 => 897#32
  | 51 => 898#32
  | 52 => 899#32
  | 53 => 900#32
  | 54 => 901#32
  | 55 => 902#32
  | 56 => 903#32
  | 57 => 904#32
  | 58 => 905#32
  | 59 => 906#32
  | 60 => 907#32
  | 61 => 908#32
  | 62 => 909#32
  | 63 => 910#32
  | 64 => 911#32
  | 65 => 912#32
  | 66 => 913#32
  | 67 => 914#32
  | 68 => 915#32
  | 69 => 916#32
  | 70 => 917#32
  | 71 => 918#32
  | 72 => 919#32
  | 73 => 920#32
  | 74 => 921#32
  | 75 => 922#32
  | 76 => 923#32
  | 77 => 924#32
  | 78 => 925#32
  | 79 => 926#32
  | 80 => 927#32
  | 81 => 928#32
  | 82 => 929#32
  | 83 => 930#32
  | 84 => 931#32
  | 85 => 932#32
  | 86 => 933#32
  | 87 => 934#32
  | 88 => 935#32
  | 89 => 936#32
  | 90 => 937#32
  | 91 => 938#32
  | 92 => 939#32
  | 93 => 940#32
  | 94 => 941#32
  | 95 => 942#32
  | 96 => 943#32
  | 97 => 944#32
  | 98 => 945#32
  | 99 => 946#32
  | 100 => 947#32
  | 101 => 948#32
  | 102 => 949#32
  | 103 => 950#32
  | 104 => 951#32
  | 105 => 952#32
  | 106 => 953#32
  | 107 => 954#32
  | 108 => 955#32
  | 109 => 956#32
  | 110 => 957#32
  | 111 => 958#32
  | 112 => 959#32
  | 113 => 960#32
  | 114 => 961#32
  | 115 => 962#32
  | 116 => 963#32
  | 117 => 964#32
  | 118 => 965#32
  | 119 => 966#32
  | 120 => 967#32
  | 121 => 968#32
  | 122 => 969#32
  | 123 => 970#32
  | 124 => 971#32
  | 125 => 972#32
  | 126 => 973#32
  | 127 => 974#32
  | _ => 0#32

noncomputable abbrev lit2t0_52 (i : Nat) : BitVec 32 := match i % 128 with
  | 0 => 975#32
  | 1 => 976#32
  | 2 => 977#32
  | 3 => 978#32
  | 4 => 979#32
  | 5 => 980#32
  | 6 => 981#32
  | 7 => 982#32
  | 8 => 983#32
  | 9 => 984#32
  | 10 => 985#32
  | 11 => 986#32
  | 12 => 987#32
  | 13 => 988#32
  | 14 => 989#32
  | 15 => 990#32
  | 16 => 991#32
  | 17 => 992#32
  | 18 => 993#32
  | 19 => 994#32
  | 20 => 995#32
  | 21 => 996#32
  | 22 => 942#32
  | 23 => 943#32
  | 24 => 944#32
  | 25 => 945#32
  | 26 => 946#32
  | 27 => 947#32
  | 28 => 948#32
  | 29 => 949#32
  | 30 => 950#32
  | 31 => 951#32
  | 32 => 952#32
  | 33 => 953#32
  | 34 => 954#32
  | 35 => 955#32
  | 36 => 956#32
  | 37 => 957#32
  | 38 => 958#32
  | 39 => 959#32
  | 40 => 960#32
  | 41 => 961#32
  | 42 => 962#32
  | 43 => 963#32
  | 44 => 964#32
  | 45 => 965#32
  | 46 => 966#32
  | 47 => 967#32
  | 48 => 968#32
  | 49 => 969#32
  | 50 => 970#32
  | 51 => 971#32
  | 52 => 972#32
  | 53 => 973#32
  | 54 => 974#32
  | 55 => 975#32
  | 56 => 976#32
  | 57 => 977#32
  | 58 => 978#32
  | 59 => 979#32
  | 60 => 980#32
  | 61 => 981#32
  | 62 => 982#32
  | 63 => 983#32
  | 64 => 984#32
  | 65 => 985#32
  | 66 => 986#32
  | 67 => 987#32
  | 68 => 988#32
  | 69 => 989#32
  | 70 => 990#32
  | 71 => 991#32
  | 72 => 992#32
  | 73 => 993#32
  | 74 => 994#32
  | 75 => 995#32
  | 76 => 996#32
  | 77 => 997#32
  | 78 => 998#32
  | 79 => 999#32
  | 80 => 1000#32
  | 81 => 1001#32
  | 82 => 1002#32
  | 83 => 1003#32
  | 84 => 1004#32
  | 85 => 1005#32
  | 86 => 1006#32
  | 87 => 1007#32
  | 88 => 1008#32
  | 89 => 1009#32
  | 90 => 1010#32
  | 91 => 1011#32
  | 92 => 1012#32
  | 93 => 1013#32
  | 94 => 1014#32
  | 95 => 1015#32
  | 96 => 1016#32
  | 97 => 1017#32
  | 98 => 1018#32
  | 99 => 1019#32
  | 100 => 1020#32
  | 101 => 1021#32
  | 102 => 1022#32
  | 103 => 1023#32
  | 104 => 1024#32
  | 105 => 1024#32
  | 106 => 1024#32
  | 107 => 1024#32
  | 108 => 1024#32
  | 109 => 1024#32
  | 110 => 1024#32
  | 111 => 1024#32
  | 112 => 1024#32
  | 113 => 1024#32
  | 114 => 1024#32
  | 115 => 1024#32
  | 116 => 1024#32
  | 117 => 1024#32
  | 118 => 1024#32
  | 119 => 1024#32
  | 120 => 1024#32
  | 121 => 1024#32
  | 122 => 1024#32
  | 123 => 1024#32
  | 124 => 1024#32
  | 125 => 1024#32
  | 126 => 1024#32
  | 127 => 1024#32
  | _ => 0#32

noncomputable abbrev lit2t (i : Nat) : BitVec 32 := match i / 128 with
  | 0 => lit2t0_0 i
  | 1 => lit2t0_1 i
  | 2 => lit2t0_2 i
  | 3 => lit2t0_3 i
  | 4 => lit2t0_4 i
  | 5 => lit2t0_5 i
  | 6 => lit2t0_6 i
  | 7 => lit2t0_7 i
  | 8 => lit2t0_8 i
  | 9 => lit2t0_9 i
  | 10 => lit2t0_10 i
  | 11 => lit2t0_11 i
  | 12 => lit2t0_12 i
  | 13 => lit2t0_13 i
  | 14 => lit2t0_14 i
  | 15 => lit2t0_15 i
  | 16 => lit2t0_16 i
  | 17 => lit2t0_17 i
  | 18 => lit2t0_18 i
  | 19 => lit2t0_19 i
  | 20 => lit2t0_20 i
  | 21 => lit2t0_21 i
  | 22 => lit2t0_22 i
  | 23 => lit2t0_23 i
  | 24 => lit2t0_24 i
  | 25 => lit2t0_25 i
  | 26 => lit2t0_26 i
  | 27 => lit2t0_27 i
  | 28 => lit2t0_28 i
  | 29 => lit2t0_29 i
  | 30 => lit2t0_30 i
  | 31 => lit2t0_31 i
  | 32 => lit2t0_32 i
  | 33 => lit2t0_33 i
  | 34 => lit2t0_34 i
  | 35 => lit2t0_35 i
  | 36 => lit2t0_36 i
  | 37 => lit2t0_37 i
  | 38 => lit2t0_38 i
  | 39 => lit2t0_39 i
  | 40 => lit2t0_40 i
  | 41 => lit2t0_41 i
  | 42 => lit2t0_42 i
  | 43 => lit2t0_43 i
  | 44 => lit2t0_44 i
  | 45 => lit2t0_45 i
  | 46 => lit2t0_46 i
  | 47 => lit2t0_47 i
  | 48 => lit2t0_48 i
  | 49 => lit2t0_49 i
  | 50 => lit2t0_50 i
  | 51 => lit2t0_51 i
  | 52 => lit2t0_52 i
  | _ => 0#32

noncomputable abbrev lit2 : Fin 6784 → BitVec 32 := fun ⟨i, _⟩ => lit2t i

def fn {F : FTy → Type} [FloatOps F] (main_arg0 : FVec F S8x2x1024x1025 .f32) (main_arg1 : FVec F S64x212x32 .f32) (main_arg2 : FVec F S64x32 .f32) (main_arg3 : FVec F S64x106 .f32) (main_arg4 : FVec F S64x106 .f32) (main_arg5 : IVec S64x106 32) : IVec S64x106 1 :=
  let main_cst : FVec F S64x106 .f32 := fun i => FloatOps.ofBits .f32 (lit0 (S64x106.rowMajor i))
  let main_cst_0 : FVec F S64x106 .f32 := fun i => FloatOps.ofBits .f32 (lit1 (S64x106.rowMajor i))
  let main_c : IVec S64x106 32 := fun i => lit2 (S64x106.rowMajor i)
  let main_v0 : IVec S64x106 1 := cmpf .oeq main_arg3 main_cst
  let main_v1 : IVec S64x106 1 := cmpf .oeq main_arg4 main_cst_0
  let main_v2 : IVec S64x106 1 := andi main_v0 main_v1
  let main_v3 : IVec S64x106 1 := cmpi .eq main_arg5 main_c
  let main_v4 : IVec S64x106 1 := andi main_v2 main_v3
  main_v4
-- ==== Kernel.lean ====
abbrev S8x2x1024x1025 : Shape := ⟨4, ![8, 2, 1024, 1025]⟩
abbrev S64x212x32 : Shape := ⟨3, ![64, 212, 32]⟩
abbrev S64x32 : Shape := ⟨2, ![64, 32]⟩
abbrev S64x106 : Shape := ⟨2, ![64, 106]⟩
abbrev S104x64 : Shape := ⟨2, ![104, 64]⟩
abbrev S104x1x1 : Shape := ⟨3, ![104, 1, 1]⟩
abbrev S104x128x1 : Shape := ⟨3, ![104, 128, 1]⟩
abbrev S64x6784 : Shape := ⟨2, ![64, 6784]⟩
abbrev S104x6784 : Shape := ⟨2, ![104, 6784]⟩
abbrev S104x106x2x32 : Shape := ⟨4, ![104, 106, 2, 32]⟩
abbrev S104x128x106 : Shape := ⟨3, ![104, 128, 106]⟩
abbrev S_ : Shape := ⟨0, ![]⟩
abbrev S104x128x106x1x1 : Shape := ⟨5, ![104, 128, 106, 1, 1]⟩
abbrev S104x1x106x2x32 : Shape := ⟨5, ![104, 1, 106, 2, 32]⟩
abbrev S104x128x106x2x32 : Shape := ⟨5, ![104, 128, 106, 2, 32]⟩
abbrev S104x128x2x32 : Shape := ⟨4, ![104, 128, 2, 32]⟩
abbrev S26x4x128x2x32 : Shape := ⟨5, ![26, 4, 128, 2, 32]⟩
abbrev S26x2x128x4x32 : Shape := ⟨5, ![26, 2, 128, 4, 32]⟩
abbrev S26x2x128x128 : Shape := ⟨4, ![26, 2, 128, 128]⟩
abbrev S2x1x128 : Shape := ⟨3, ![2, 1, 128]⟩
abbrev S1x2x32 : Shape := ⟨3, ![1, 2, 32]⟩
abbrev S2x32 : Shape := ⟨2, ![2, 32]⟩
abbrev S1 : Shape := ⟨1, ![1]⟩
abbrev S2 : Shape := ⟨1, ![2]⟩
abbrev S1x2048 : Shape := ⟨2, ![1, 2048]⟩
abbrev S8x32x1024x64 : Shape := ⟨4, ![8, 32, 1024, 64]⟩
abbrev S1x2x256x1025 : Shape := ⟨4, ![1, 2, 256, 1025]⟩
abbrev S1x32x256x64 : Shape := ⟨4, ![1, 32, 256, 64]⟩
abbrev S1x1x256x128 : Shape := ⟨4, ![1, 1, 256, 128]⟩
abbrev S256x128 : Shape := ⟨2, ![256, 128]⟩
abbrev S1x1x128x128 : Shape := ⟨4, ![1, 1, 128, 128]⟩
abbrev S128x128 : Shape := ⟨2, ![128, 128]⟩
abbrev S1x1x256x1 : Shape := ⟨4, ![1, 1, 256, 1]⟩
abbrev S256x1 : Shape := ⟨2, ![256, 1]⟩
abbrev S1x1x128 : Shape := ⟨3, ![1, 1, 128]⟩
abbrev S1x128 : Shape := ⟨2, ![1, 128]⟩
abbrev S256x2048 : Shape := ⟨2, ![256, 2048]⟩
abbrev S256x64x32 : Shape := ⟨3, ![256, 64, 32]⟩
abbrev S32x256x64 : Shape := ⟨3, ![32, 256, 64]⟩

abbrev nBuf : Space → Nat
  | .hbm => 47
  | .vmem => 7
  | .smem => 0
  | _ => 0

abbrev bufTy : (tb : Table) → Fin (tcTables nBuf tb) → BufTy
  | .hbm, ⟨0, _⟩ => ⟨S8x2x1024x1025, .f32⟩
  | .hbm, ⟨1, _⟩ => ⟨S64x212x32, .f32⟩
  | .hbm, ⟨2, _⟩ => ⟨S64x32, .f32⟩
  | .hbm, ⟨3, _⟩ => ⟨S64x106, .f32⟩
  | .hbm, ⟨4, _⟩ => ⟨S64x106, .f32⟩
  | .hbm, ⟨5, _⟩ => ⟨S64x106, .i32⟩
  | .hbm, ⟨6, _⟩ => ⟨S104x64, .f32⟩
  | .hbm, ⟨7, _⟩ => ⟨S104x1x1, .i32⟩
  | .hbm, ⟨8, _⟩ => ⟨S104x128x1, .f32⟩
  | .hbm, ⟨9, _⟩ => ⟨S64x6784, .f32⟩
  | .hbm, ⟨10, _⟩ => ⟨S104x6784, .f32⟩
  | .hbm, ⟨11, _⟩ => ⟨S104x106x2x32, .f32⟩
  | .hbm, ⟨12, _⟩ => ⟨S104x128x106, .i32⟩
  | .hbm, ⟨13, _⟩ => ⟨S104x128x106, .i32⟩
  | .hbm, ⟨14, _⟩ => ⟨S104x128x106, .i32⟩
  | .hbm, ⟨15, _⟩ => ⟨S104x128x106, .i32⟩
  | .hbm, ⟨16, _⟩ => ⟨S104x128x106, .i1⟩
  | .hbm, ⟨17, _⟩ => ⟨S_, .f32⟩
  | .hbm, ⟨18, _⟩ => ⟨S_, .f32⟩
  | .hbm, ⟨19, _⟩ => ⟨S104x128x106, .f32⟩
  | .hbm, ⟨20, _⟩ => ⟨S104x128x106, .f32⟩
  | .hbm, ⟨21, _⟩ => ⟨S104x128x106, .f32⟩
  | .hbm, ⟨22, _⟩ => ⟨S104x128x106x1x1, .f32⟩
  | .hbm, ⟨23, _⟩ => ⟨S104x1x106x2x32, .f32⟩
  | .hbm, ⟨24, _⟩ => ⟨S104x128x106x2x32, .f32⟩
  | .hbm, ⟨25, _⟩ => ⟨S104x128x106x2x32, .f32⟩
  | .hbm, ⟨26, _⟩ => ⟨S104x128x106x2x32, .f32⟩
  | .hbm, ⟨27, _⟩ => ⟨S_, .f32⟩
  | .hbm, ⟨28, _⟩ => ⟨S104x128x2x32, .f32⟩
  | .hbm, ⟨29, _⟩ => ⟨S26x4x128x2x32, .f32⟩
  | .hbm, ⟨30, _⟩ => ⟨S26x2x128x4x32, .f32⟩
  | .hbm, ⟨31, _⟩ => ⟨S26x2x128x128, .f32⟩
  | .hbm, ⟨32, _⟩ => ⟨S_, .f32⟩
  | .hbm, ⟨33, _⟩ => ⟨S2x1x128, .f32⟩
  | .hbm, ⟨34, _⟩ => ⟨S1x2x32, .f32⟩
  | .hbm, ⟨35, _⟩ => ⟨S2x32, .f32⟩
  | .hbm, ⟨36, _⟩ => ⟨S_, .f32⟩
  | .hbm, ⟨37, _⟩ => ⟨S2x32, .f32⟩
  | .hbm, ⟨38, _⟩ => ⟨S2x32, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S2x1x128, .f32⟩
  | .hbm, ⟨45, _⟩ => ⟨S1x2048, .f32⟩
  | .hbm, ⟨46, _⟩ => ⟨S8x32x1024x64, .f32⟩
  | .local _ .vmem, ⟨0, _⟩ => ⟨S1x2x256x1025, .f32⟩
  | .local _ .vmem, ⟨1, _⟩ => ⟨S1x2x256x1025, .f32⟩
  | .local _ .vmem, ⟨2, _⟩ => ⟨S26x2x128x128, .f32⟩
  | .local _ .vmem, ⟨3, _⟩ => ⟨S2x1x128, .f32⟩
  | .local _ .vmem, ⟨4, _⟩ => ⟨S1x2048, .f32⟩
  | .local _ .vmem, ⟨5, _⟩ => ⟨S1x32x256x64, .f32⟩
  | .local _ .vmem, ⟨6, _⟩ => ⟨S1x32x256x64, .f32⟩
  | _, _ => ⟨S8x2x1024x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_c : Ref sig .tc := ⟨.hbm, 7, rfl⟩
abbrev main_call0_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst_2 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_cst_3 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_cst_4 : Ref sig .tc := ⟨.hbm, 36, rfl⟩
abbrev main_call0_v21 : Ref sig .tc := ⟨.hbm, 37, rfl⟩
abbrev main_call0_v22 : Ref sig .tc := ⟨.hbm, 38, rfl⟩
abbrev main_call0_c_5 : Ref sig .tc := ⟨.hbm, 39, rfl⟩
abbrev main_call0_v23 : Ref sig .tc := ⟨.hbm, 40, rfl⟩
abbrev main_call0_c_6 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x256x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S26x2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2x1024x1025 : Shape := ⟨4, ![8, 2, 1024, 1025]⟩
abbrev S64x212x32 : Shape := ⟨3, ![64, 212, 32]⟩
abbrev S64x32 : Shape := ⟨2, ![64, 32]⟩
abbrev S64x106 : Shape := ⟨2, ![64, 106]⟩
abbrev S6784 : Shape := ⟨1, ![6784]⟩
abbrev S_ : Shape := ⟨0, ![]⟩
abbrev S6784x1 : Shape := ⟨2, ![6784, 1]⟩
abbrev S1 : Shape := ⟨1, ![1]⟩
abbrev S1x1 : Shape := ⟨2, ![1, 1]⟩
abbrev S8x2x1024x6784 : Shape := ⟨4, ![8, 2, 1024, 6784]⟩
abbrev S1x1x1x6784 : Shape := ⟨4, ![1, 1, 1, 6784]⟩
abbrev S8x2x1024x64x106 : Shape := ⟨5, ![8, 2, 1024, 64, 106]⟩
abbrev S8x1024x64x106x2 : Shape := ⟨5, ![8, 1024, 64, 106, 2]⟩
abbrev S8x1024x64x212 : Shape := ⟨4, ![8, 1024, 64, 212]⟩
abbrev S64x32x8x1024 : Shape := ⟨4, ![64, 32, 8, 1024]⟩
abbrev S8x1024x64x32 : Shape := ⟨4, ![8, 1024, 64, 32]⟩
abbrev S1x1x64x32 : Shape := ⟨4, ![1, 1, 64, 32]⟩
abbrev S8x32x1024x64 : Shape := ⟨4, ![8, 32, 1024, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x2x1024x1025, .f32⟩
  | .hbm, ⟨1, _⟩ => ⟨S64x212x32, .f32⟩
  | .hbm, ⟨2, _⟩ => ⟨S64x32, .f32⟩
  | .hbm, ⟨3, _⟩ => ⟨S64x106, .f32⟩
  | .hbm, ⟨4, _⟩ => ⟨S64x106, .f32⟩
  | .hbm, ⟨5, _⟩ => ⟨S64x106, .i32⟩
  | .hbm, ⟨6, _⟩ => ⟨S6784, .i32⟩
  | .hbm, ⟨7, _⟩ => ⟨S_, .i32⟩
  | .hbm, ⟨8, _⟩ => ⟨S6784, .i32⟩
  | .hbm, ⟨9, _⟩ => ⟨S6784, .i1⟩
  | .hbm, ⟨10, _⟩ => ⟨S_, .i32⟩
  | .hbm, ⟨11, _⟩ => ⟨S6784, .i32⟩
  | .hbm, ⟨12, _⟩ => ⟨S6784, .i32⟩
  | .hbm, ⟨13, _⟩ => ⟨S6784, .i32⟩
  | .hbm, ⟨14, _⟩ => ⟨S6784x1, .i32⟩
  | .hbm, ⟨15, _⟩ => ⟨S1, .i32⟩
  | .hbm, ⟨16, _⟩ => ⟨S_, .i32⟩
  | .hbm, ⟨17, _⟩ => ⟨S6784x1, .i32⟩
  | .hbm, ⟨18, _⟩ => ⟨S6784x1, .i1⟩
  | .hbm, ⟨19, _⟩ => ⟨S1x1, .i32⟩
  | .hbm, ⟨20, _⟩ => ⟨S6784x1, .i32⟩
  | .hbm, ⟨21, _⟩ => ⟨S6784x1, .i1⟩
  | .hbm, ⟨22, _⟩ => ⟨S6784x1, .i1⟩
  | .hbm, ⟨23, _⟩ => ⟨S_, .i1⟩
  | .hbm, ⟨24, _⟩ => ⟨S6784, .i1⟩
  | .hbm, ⟨25, _⟩ => ⟨S8x2x1024x6784, .f32⟩
  | .hbm, ⟨26, _⟩ => ⟨S8x2x1024x6784, .i1⟩
  | .hbm, ⟨27, _⟩ => ⟨S_, .f32⟩
  | .hbm, ⟨28, _⟩ => ⟨S8x2x1024x6784, .f32⟩
  | .hbm, ⟨29, _⟩ => ⟨S8x2x1024x6784, .f32⟩
  | .hbm, ⟨30, _⟩ => ⟨S6784, .f32⟩
  | .hbm, ⟨31, _⟩ => ⟨S6784, .f32⟩
  | .hbm, ⟨32, _⟩ => ⟨S6784, .f32⟩
  | .hbm, ⟨33, _⟩ => ⟨S1x1x1x6784, .f32⟩
  | .hbm, ⟨34, _⟩ => ⟨S8x2x1024x6784, .f32⟩
  | .hbm, ⟨35, _⟩ => ⟨S8x2x1024x6784, .f32⟩
  | .hbm, ⟨36, _⟩ => ⟨S8x2x1024x64x106, .f32⟩
  | .hbm, ⟨37, _⟩ => ⟨S8x1024x64x106x2, .f32⟩
  | .hbm, ⟨38, _⟩ => ⟨S8x1024x64x212, .f32⟩
  | .hbm, ⟨39, _⟩ => ⟨S64x32x8x1024, .f32⟩
  | .hbm, ⟨40, _⟩ => ⟨S8x1024x64x32, .f32⟩
  | .hbm, ⟨41, _⟩ => ⟨S1x1x64x32, .f32⟩
  | .hbm, ⟨42, _⟩ => ⟨S8x1024x64x32, .f32⟩
  | .hbm, ⟨43, _⟩ => ⟨S8x1024x64x32, .f32⟩
  | .hbm, ⟨44, _⟩ => ⟨S8x32x1024x64, .f32⟩
  | _, _ => ⟨S8x2x1024x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩

abbrev nD : Nat := 1
abbrev τ : Topo := Topo.v7x

variable {F : FTy → Type} [FloatOps F]
-- ==== Proof.K.Tables.lean ====
module

public import proofs.«01_k».proof.KernelIdeal
public import proofs.«01_k».proof.Pre_band_tables

/-! The band tables: what the kernel's built-in tables and the reference's table arguments say of each other, word by
word. Every theorem here is a finite check over the printed tables. -/

@[expose] public section

set_option maxRecDepth 16384

noncomputable section

namespace Cert.Tables

open Idealize.ShloMosaic

/-- The band group (four neighbouring bands) of the kernel's `p`-th tile. -/
def grp (p : Nat) : Nat :=
  [0, 1, 2, 3, 4, 5, 6, 7, 7, 8, 9, 9, 10, 10, 11, 11, 12, 12, 13, 13, 13, 14, 14, 14, 15, 15].getD p 0

/-- The 128-bin column of the spectrum that the kernel's `p`-th tile reads. -/
def col (p : Nat) : Nat :=
  [0, 0, 0, 0, 0, 0, 0, 0, 1, 1, 1, 2, 1, 2, 2, 3, 3, 4, 3, 4, 5, 4, 5, 6, 6, 7].getD p 0

/-- The first tile of a band group. -/
def first (g : Nat) : Nat := [0, 1, 2, 3, 4, 5, 6, 7, 9, 10, 12, 14, 16, 18, 21, 24].getD g 0

/-- The first column that a band group reads. -/
def lo (g : Nat) : Nat := [0, 0, 0, 0, 0, 0, 0, 0, 1, 1, 1, 2, 3, 3, 4, 6].getD g 0

/-- The last column that a band group reads. -/
def hi (g : Nat) : Nat := [0, 0, 0, 0, 0, 0, 0, 1, 1, 2, 2, 3, 4, 5, 6, 7].getD g 0

/-- The mel weight of band `k` at position `w`, as a float word. -/
def mel (k : Fin 64) (w : Fin 106) : BitVec 32 := Cert.Pre_band_tables.lit0 ⟨k * 106 + w, by omega⟩

/-- The mask of band `k` at position `w`, as a float word. -/
def msk (k : Fin 64) (w : Fin 106) : BitVec 32 := Cert.Pre_band_tables.lit1 ⟨k * 106 + w, by omega⟩

/-- The frequency bin of band `k` at position `w`, as an integer word. -/
def bin (k : Fin 64) (w : Fin 106) : BitVec 32 := Cert.Pre_band_tables.lit2 ⟨k * 106 + w, by omega⟩

/-- The first frequency bin of band `k`. -/
def start (k : Fin 64) : Nat := (bin k 0).toNat

/-- The band that row `q` of the kernel's per-tile tables belongs to: group of the tile, then place in the group. -/
def band (q : Fin 104) : Fin 64 := ⟨(4 * grp (q / 4) + q % 4) % 64, Nat.mod_lt _ (by decide)⟩

/-- Every frequency bin of the tables is one of the 1025 bins, also as a signed word. -/
theorem bin_le : ∀ k : Fin 64, ∀ w : Fin 106, (bin k w).toNat ≤ 1024 := by decide +kernel

/-- Where a band's mel weight is not zero, its mask is one and its bins run on from the band's first one. -/
theorem mel_run : ∀ k : Fin 64, ∀ w : Fin 106,
    mel k w = 0#32 ∨ (msk k w = 0x3F800000#32 ∧ (bin k w).toNat = start k + w) := by decide +kernel

/-- A nonzero weight below bin 1024 lies in a column that the band's group reads. -/
theorem mel_col : ∀ k : Fin 64, ∀ w : Fin 106,
    mel k w = 0#32 ∨ 1024 ≤ start k + w ∨ (lo (k / 4) ≤ (start k + w) / 128 ∧ (start k + w) / 128 ≤ hi (k / 4)) := by
  decide +kernel

/-- Only the last band has a weight at bin 1024, at its position 82, and none has one beyond. -/
theorem mel_last : ∀ k : Fin 64, ∀ w : Fin 106, 1024 ≤ start k + w → mel k w ≠ 0#32 → k.val = 63 ∧ w.val = 82 := by
  decide +kernel

/-- The last band's first bin is 942, and its weight at bin 1024 is one. -/
theorem last_one : start 63 = 942 ∧ mel 63 82 = 0x3F800000#32 := by decide +kernel

/-- The kernel's selection table is one exactly at the row's band. -/
theorem sel_tab : ∀ q : Fin 104, ∀ k : Fin 64,
    Cert.KernelIdeal.lit0 ⟨q * 64 + k, by omega⟩ = if k = band q then 0x3F800000#32 else 0#32 := by decide +kernel

/-- The kernel's offset table turns a place in a tile into a position in the band: the column's first bin less the band's
    first bin, as words. -/
theorem off_tab : ∀ q : Fin 104,
    Cert.KernelIdeal.lit1 q = BitVec.ofNat 32 (128 * col (q / 4)) - BitVec.ofNat 32 (start (band q)) := by decide +kernel

/-- The kernel's coefficient table holds the band's mel weight at every place of a tile that is a position of the band. -/
theorem coef_tab : ∀ q : Fin 104, ∀ f : Fin 128, ∀ h : 128 * col (q / 4) + f - start (band q) < 106,
    start (band q) ≤ 128 * col (q / 4) + f →
    Cert.KernelIdeal.lit2 ⟨q * 128 + f, by omega⟩ = mel (band q) ⟨128 * col (q / 4) + f - start (band q), h⟩ := by
  decide +kernel

/-- Of every group and column that the group reads there is a tile. -/
theorem tile_of : ∀ g : Fin 16, ∀ j : Fin 8, lo g ≤ j → j ≤ hi g →
    first g + (j - lo g) < 26 ∧ grp (first g + (j - lo g)) = g ∧ col (first g + (j - lo g)) = j := by decide +kernel

/-- A band's first bin is one of the first 1000. -/
theorem start_lt : ∀ k : Fin 64, start k < 1000 := by decide +kernel

end Cert.Tables
-- ==== Proof.K.Body.lean ====
module

public import proofs.«01_k».proof.Proof.Gen.KernelIdeal.Value
public import proofs.«01_k».proof.Proof.K.Tables
public import Idealize.ShloMosaic.Lib.Pipeline.ValueKit
public import Idealize.ShloMosaic.Lib.Pointwise

/-! What one grid point's body stores, index by index. -/

@[expose] public section

set_option maxRecDepth 16384

noncomputable section

namespace Cert.KernelIdeal.Body

open Cert.KernelIdeal Cert.KernelIdeal.Gen Idealize.ShloMosaic Idealize.ShloMosaic.TcCoe Idealize.SL.Sem

/-- One tile's product: both channels of a 128-bin column of the spectrum block against the tile's folded weights. -/
def tile (x0 : FVec Ideal S1x2x256x1025 .f32) (x1 : FVec Ideal S26x2x128x128 .f32) (p : Fin 26) (j : Fin 8) (r : Fin 256)
    (l : Fin 128) : EReal :=
  ∑ c : Fin 2, ∑ f : Fin 128, x0 (ix4 0 c r ⟨128 * j + f, by omega⟩) * x1 (ix4 p c f l)

/-- The tile of a group and a column. -/
def tileOf (g : Fin 16) (j : Fin 8) : Fin 26 := Fin.ofNat 26 (Tables.first g + (j - Tables.lo g))

/-- A group's tiles summed, by column. -/
def groupSum (x0 : FVec Ideal S1x2x256x1025 .f32) (x1 : FVec Ideal S26x2x128x128 .f32) (g : Fin 16) (r : Fin 256)
    (l : Fin 128) : EReal :=
  ∑ j : Fin 8, if Tables.lo g ≤ j ∧ j ≤ Tables.hi g then tile x0 x1 (tileOf g j) j r l else 0

/-- The last bin's term, which only the last group has. -/
def lastTerm (x0 : FVec Ideal S1x2x256x1025 .f32) (x2 : FVec Ideal S2x1x128 .f32) (g : Fin 16) (r : Fin 256) (l : Fin 128) : EReal :=
  if g = 15 then ∑ c : Fin 2, x0 (ix4 0 c r 1024) * x2 (ix3 c 0 l) else 0

/-- Sixteen arrays of 128 lanes side by side, read at a lane: the array that the lane over 128 names. -/
theorem cat_at (p0 p1 p2 p3 p4 p5 p6 p7 p8 p9 p10 p11 p12 p13 p14 p15 : FVec Ideal S256x128 .f32) (r : Fin 256) (n : Fin 2048) h :
    concatenate S256x2048 1 [⟨S256x128, p0⟩, ⟨S256x128, p1⟩, ⟨S256x128, p2⟩, ⟨S256x128, p3⟩, ⟨S256x128, p4⟩, ⟨S256x128, p5⟩, ⟨S256x128, p6⟩, ⟨S256x128, p7⟩, ⟨S256x128, p8⟩, ⟨S256x128, p9⟩, ⟨S256x128, p10⟩, ⟨S256x128, p11⟩, ⟨S256x128, p12⟩, ⟨S256x128, p13⟩, ⟨S256x128, p14⟩, ⟨S256x128, p15⟩] h (ix2 r n)
      = ![p0, p1, p2, p3, p4, p5, p6, p7, p8, p9, p10, p11, p12, p13, p14, p15] ⟨n / 128, by omega⟩ (ix2 r ⟨n % 128, by omega⟩) := by
  exact concatenate_ofFn_apply (t := S256x2048) (s₁ := S256x128) 1 ![p0, p1, p2, p3, p4, p5, p6, p7, p8, p9, p10, p11, p12, p13, p14, p15] h rfl 128 rfl (ix2 r n) ⟨n / 128, by omega⟩ rfl
    (ix2 r ⟨n % 128, by omega⟩) rfl (fun b hb => by
      match b with
      | ⟨0, _⟩ => rfl
      | ⟨1, _⟩ => exact absurd rfl hb)

/-- The stored value at channel `o`, row `r`, band `k`: the laid-out group results at lane `32 k + o`, plus the bias. -/
theorem pay2_at (v : FVec Ideal S256x2048 .f32) (b : FVec Ideal S1x2048 .f32) (o : Fin 32) (r : Fin 256) (k : Fin 64) :
    k0_pay2 (F := Ideal) v b (ix4 0 o r k) = v (ix2 r ⟨k * 32 + o, by omega⟩) + b (ix2 0 ⟨k * 32 + o, by omega⟩) := by
  pointwise [k0_pay2]

/-- The block that the body stores, entry by entry: the group's tiles summed, the last bin's term, the bias. -/
theorem out_at (x0 : FVec Ideal S1x2x256x1025 .f32) (x1 : FVec Ideal S26x2x128x128 .f32) (x2 : FVec Ideal S2x1x128 .f32)
    (x3 : FVec Ideal S1x2048 .f32) (o : Fin 32) (r : Fin 256) (k : Fin 64) :
    out0_4 (F := Ideal) x0 x1 x2 x3 (ix4 0 o r k)
      = (groupSum x0 x1 ⟨k / 4, by omega⟩ r ⟨32 * (k % 4) + o, by omega⟩
          + lastTerm x0 x2 ⟨k / 4, by omega⟩ r ⟨32 * (k % 4) + o, by omega⟩) + x3 (ix2 0 ⟨k * 32 + o, by omega⟩) := by
  frame_out
  refine (pay2_at _ _ o r k).trans ?_
  refine congrArg₂ (· + ·) ((cat_at _ _ _ _ _ _ _ _ _ _ _ _ _ _ _ _ _ _ _).trans ?_) rfl
  have hg : (⟨(k * 32 + o : ℕ) / 128, by omega⟩ : Fin 16) = ⟨k / 4, by omega⟩ := Fin.ext (by simp only; omega)
  have hl : (⟨(k * 32 + o : ℕ) % 128, by omega⟩ : Fin 128) = ⟨32 * (k % 4) + o, by omega⟩ := Fin.ext (by simp only; omega)
  rw [hg, hl]
  generalize (⟨k / 4, _⟩ : Fin 16) = g
  generalize (⟨32 * (k % 4) + o, _⟩ : Fin 128) = l
  fin_cases g
  all_goals
    simp [groupSum, lastTerm, Tables.lo, Tables.hi, Fin.sum_univ_eight]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [tile, Fin.sum_univ_two, add_assoc]
    rfl

end Cert.KernelIdeal.Body
-- ==== Proof.K.Weights.lean ====
module

public import proofs.«01_k».proof.Proof.Gen.KernelIdeal.Value
public import proofs.«01_k».proof.Proof.K.Tables
public import Idealize.ShloMosaic.Lib.Pipeline.ValueKit
public import Idealize.ShloMosaic.Lib.Pointwise
public import Idealize.ShloMosaic.Lib.Claim
public import Idealize.ShloMosaic.Lib.Routing.OpsSet

/-! The folded weights that the host part hands to the region, index by index. -/

@[expose] public section

noncomputable section

namespace Cert.KernelIdeal.Weights

open Cert.KernelIdeal Cert.KernelIdeal.Gen Idealize.ShloMosaic Idealize.ShloMosaic.TcCoe Idealize.SL.Sem

/-- The real value of a float word. -/
abbrev real (b : BitVec 32) : EReal := Ideal.ofBits .f32 b

theorem real_zero : real 0#32 = 0 := by simp [real, Ideal.ofBits, Ideal.ieee]

theorem real_one : real 0x3F800000#32 = 1 := by simp [real]

/-- Summing a family against a row of the selection table leaves the entry of the row's band. -/
theorem sel_sum (q : Fin 104) (v : Fin 64 → EReal) :
    ∑ k : Fin 64, real (lit0 ⟨q * 64 + k, by omega⟩) * v k = v (Tables.band q) := by
  rw [Finset.sum_eq_single (Tables.band q)]
  · rw [Tables.sel_tab, if_pos rfl, real_one, one_mul]
  · intro k _ hk
    rw [Tables.sel_tab, if_neg hk, real_zero, zero_mul]
  · intro h
    exact absurd (Finset.mem_univ _) h

/-- The word equation that places a band's position `w` in a tile, as an equation of naturals. -/
theorem place_iff (q : Fin 104) (f : Fin 128) (w : Fin 106) :
    BitVec.ofNat 32 w = BitVec.ofNat 32 f + lit1 q ↔ Tables.start (Tables.band q) + w = 128 * Tables.col (q / 4) + f := by
  have hc : ∀ p : Fin 104, Tables.col (p / 4) < 8 := by decide
  have h1 := hc q
  have h2 := Tables.start_lt (Tables.band q)
  rw [Tables.off_tab]
  generalize Tables.start (Tables.band q) = s at *
  generalize Tables.col (q / 4) = t at *
  have hw := w.isLt
  have hf := f.isLt
  rw [← BitVec.toNat_inj]
  simp only [BitVec.toNat_ofNat, BitVec.toNat_add, BitVec.toNat_sub]
  omega

/-- One term of a folded weight: the coefficient where the position's bin is the entry's, times the selected band's weight. -/
theorem entry (q : Fin 104) (f : Fin 128) (w : Fin 106) (v : Fin 64 → EReal) :
    Scalar.select (IntOp.cmpi .eq (BitVec.ofNat 32 w) (IntOp.addi (BitVec.ofNat 32 f) (lit1 q)))
        (real (lit2 ⟨q * 128 + f, by omega⟩) * ∑ k : Fin 64, real (lit0 ⟨q * 64 + k, by omega⟩) * v k) 0
      = if Tables.start (Tables.band q) + w = 128 * Tables.col (q / 4) + f then real (Tables.mel (Tables.band q) w) * v (Tables.band q)
        else 0 := by
  rw [sel_sum, WordCmp.cmpi_eq_eq, WordCmp.select_decide, show IntOp.addi (BitVec.ofNat 32 f) (lit1 q) = BitVec.ofNat 32 f + lit1 q from rfl]
  by_cases h : Tables.start (Tables.band q) + w = 128 * Tables.col (q / 4) + f
  · have hw : 128 * Tables.col (q / 4) + f - Tables.start (Tables.band q) = w := by omega
    have hc := Tables.coef_tab q f (by omega) (by omega)
    simp only [hw, Fin.eta] at hc
    rw [if_pos h, if_pos ((place_iff q f w).2 h), hc]
  · rw [if_neg h, if_neg fun e => h ((place_iff q f w).1 e)]

/-- One folded weight, as a sum over the positions of its band: at most one position has the entry's bin. -/
def fold (w : FVec Ideal S64x212x32 .f32) (k : Fin 64) (ch : Fin 2) (o : Fin 32) (n : ℕ) : EReal :=
  ∑ i : Fin 106, if Tables.start k + i = n then real (Tables.mel k i) * w (ix3 k ⟨i * 2 + ch, by omega⟩ o) else 0

/-- The folded weights at a tile, a channel, a place and a lane; `q` is the tile's row of the tables for the lane. -/
theorem wt_at (m : (ℓ : Loc nD τ sig) → Buf (Elt Ideal) ℓ) (c : Dev nD) (p : Fin 26) (ch : Fin 2) (f l : Fin 128) (q : Fin 104)
    (hq : (p : ℕ) * 4 + l / 32 = q) :
    V m c main_call0_v17 (ix4 p ch f l)
      = fold (m ((c : Thread nD τ).loc main_arg1)) (Tables.band q) ch ⟨l % 32, by omega⟩ (128 * Tables.col (q / 4) + f) := by
  entry_read
  simp -implicitDefEqProofs only [StableHlo.TRef.ofBuf_toBuf, StableHlo.TRef.ofBuf, StableHlo.TRef.toBuf, cast_eq]
  pointwise
  refine Finset.sum_congr (M := EReal) rfl fun w _ => ?_
  have r1 : S104x1x1.rowMajor (ix3 q 0 0) = q := Fin.ext (by rw [Shape.rowMajor_val_three]; simp)
  have r2 : S104x128x1.rowMajor (ix3 q f 0) = (⟨q * 128 + f, by omega⟩ : Fin 13312) := Fin.ext (by rw [Shape.rowMajor_val_three]; simp)
  have r0 (k : Fin 64) : S104x64.rowMajor (ix2 q k) = (⟨q * 64 + k, by omega⟩ : Fin 6656) := Fin.ext (by rw [Shape.rowMajor_val_two]; simp)
  have ho : (w * 64 + ch * 32 + l % 32 : ℕ) / 32 = w * 2 + ch := by omega
  have hl : (w * 64 + ch * 32 + l % 32 : ℕ) % 32 = l % 32 := by omega
  simp only [hq, Fin.eta, r1, r2, r0, ho, hl]
  exact entry q f w _

/-- The two index words of the scatter that places the last bin's weights. -/
abbrev cells : IVec S2 32 :=
  concatenate S2 0 [⟨S1, broadcastInDim S1 ![] bcast_S_S1 (constantI S_ 32 0#32)⟩,
    ⟨S1, broadcastInDim S1 ![] bcast_S_S1 (constantI S_ 32 96#32)⟩] concatenates_S1_S1_S2_d0

/-- The last bin's weights of band 63. -/
abbrev lastUpd (w : FVec Ideal S64x212x32 .f32) : FVec Ideal S2x32 .f32 :=
  mulf (F := Ideal) (shapeCast S2x32 (extractStridedSlice S1x2x32 ![63, 164, 0] w slices_S64x212x32_S1x2x32_63_164_0) shapeCasts_S1x2x32_S2x32)
    (broadcastInDim S2x32 ![] bcast_S_S2x32 (constant (F := Ideal) S_ .f32 0x3F800000#32))

theorem lastUpd_at (w : FVec Ideal S64x212x32 .f32) (ch : Fin 2) (o : Fin 32) :
    lastUpd w (ix2 ch o) = w (ix3 63 ⟨164 + ch, by omega⟩ o) := by
  pointwise [lastUpd]

/-- An update lands at channel `ch`, lane `l` exactly when it is the channel's and its lane plus 96 is `l`. -/
theorem lands (i : Fin 2) (j : Fin 32) (ch : Fin 2) (l : Fin 128) :
    scatter_S2x1x128_S2_S2x32_01_1_12_0.resultIdx? (ix2 i j) cells = some (ix3 ch 0 l) ↔ i = ch ∧ 96 + j.val = l.val := by
  rw [Routing.resultIdx?_eq_some]
  have c0 : cells (ix1 0) = 0#32 := by pointwise [cells]
  have c1 : cells (ix1 1) = 96#32 := by pointwise [cells]
  generalize cells = idx at *
  have s0 : scatter_S2x1x128_S2_S2x32_01_1_12_0.start (ix2 i j) idx 0 = 0 := rfl
  have s1 : scatter_S2x1x128_S2_S2x32_01_1_12_0.start (ix2 i j) idx 1 = (idx (ix1 0)).toInt := by
    refine (congrArg (fun t => (idx t).toInt) (?_ : scatter_S2x1x128_S2_S2x32_01_1_12_0.siIdx (ix2 i j) ⟨0, by decide⟩ = ix1 0))
    funext b; fin_cases b; rfl
  have s2 : scatter_S2x1x128_S2_S2x32_01_1_12_0.start (ix2 i j) idx 2 = (idx (ix1 1)).toInt := by
    refine (congrArg (fun t => (idx t).toInt) (?_ : scatter_S2x1x128_S2_S2x32_01_1_12_0.siIdx (ix2 i j) ⟨1, by decide⟩ = ix1 1))
    funext b; fin_cases b; rfl
  have w0 : scatter_S2x1x128_S2_S2x32_01_1_12_0.window (ix2 i j) 0 = i := rfl
  have w1 : scatter_S2x1x128_S2_S2x32_01_1_12_0.window (ix2 i j) 1 = 0 := rfl
  have w2 : scatter_S2x1x128_S2_S2x32_01_1_12_0.window (ix2 i j) 2 = j := rfl
  rw [c0] at s1
  rw [c1] at s2
  have t0 : (0#32).toInt = 0 := by decide
  have t1 : (96#32).toInt = 96 := by decide
  constructor
  · intro h
    have a0 := h 0
    have a2 := h 2
    rw [s0, w0] at a0
    rw [s2, w2, t1] at a2
    change (0 : Int) + (i : Int) = (ch : Int) at a0
    change (96 : Int) + (j : Int) = (l : Int) at a2
    exact ⟨Fin.ext (by omega), by omega⟩
  · rintro ⟨rfl, h⟩ a
    match a with
    | ⟨0, _⟩ => exact (congrArg₂ (· + ·) s0 (congrArg Nat.cast w0)).trans (zero_add _)
    | ⟨1, _⟩ => exact (congrArg₂ (· + ·) (s1.trans t0) (congrArg Nat.cast w1)).trans (zero_add _)
    | ⟨2, _⟩ => exact (congrArg₂ (· + ·) (s2.trans t1) (congrArg Nat.cast w2)).trans (by change (96 : Int) + (j : Int) = (l : Int); omega)

/-- The last bin's weights at a channel and a lane: band 63's in the last 32 lanes, zero elsewhere. -/
theorem wlast_at (m : (ℓ : Loc nD τ sig) → Buf (Elt Ideal) ℓ) (c : Dev nD) (ch : Fin 2) (l : Fin 128) :
    V m c main_call0_v26 (ix3 ch 0 l)
      = if 96 ≤ l.val then m ((c : Thread nD τ).loc main_arg1) (ix3 63 ⟨164 + ch, by omega⟩ ⟨l % 32, by omega⟩) else (0 : EReal) := by
  have e : V m c main_call0_v26 = Host.scatter scatter_S2x1x128_S2_S2x32_01_1_12_0 (fun _ b => b)
    (broadcastInDim S2x1x128 ![] bcast_S_S2x1x128 (constant (F := Ideal) S_ .f32 0x00000000#32)) cells
      (lastUpd (m ((c : Thread nD τ).loc main_arg1))) := by
    entry_read
    simp -implicitDefEqProofs only [StableHlo.TRef.ofBuf_toBuf, StableHlo.TRef.ofBuf, StableHlo.TRef.toBuf, cast_eq]
    rfl
  rw [e]
  by_cases h : 96 ≤ l.val
  · rw [if_pos h, ← lastUpd_at (m ((c : Thread nD τ).loc main_arg1)) ch ⟨l % 32, by omega⟩]
    refine Routing.scatter_set_hit _ _ _ _ _ _ (fun k hk => ?_) (ix2 ch ⟨l % 32, by omega⟩) ((lands _ _ _ _).2 ⟨rfl, by simp only; omega⟩)
    rw [eq_ix2 k] at hk ⊢
    obtain ⟨h1, h2⟩ := (lands _ _ _ _).1 hk
    refine congrArg _ (congrArg₂ ix2 h1 (Fin.ext ?_))
    simp only
    omega
  · rw [if_neg h, Routing.scatter_set_miss]
    · pointwise
    · intro k hk
      rw [eq_ix2 k] at hk
      have := ((lands _ _ _ _).1 hk).2
      omega

/-- The bias row at a lane. -/
theorem bias_at (m : (ℓ : Loc nD τ sig) → Buf (Elt Ideal) ℓ) (c : Dev nD) (k : Fin 64) (o : Fin 32) :
    V m c main_call0_v27 (ix2 0 ⟨k * 32 + o, by omega⟩) = m ((c : Thread nD τ).loc main_arg2) (ix2 k o) := by
  entry_read
  pointwise

end Cert.KernelIdeal.Weights
-- ==== Proof.K.Sum.lean ====
module

public import proofs.«01_k».proof.Proof.K.Body
public import proofs.«01_k».proof.Proof.K.Weights

/-! The tiled sum over folded weights is the sum over a band's own positions. -/

@[expose] public section

noncomputable section

namespace Cert.KernelIdeal.Sum

open Cert.KernelIdeal Cert.KernelIdeal.Gen Idealize.ShloMosaic Idealize.ShloMosaic.TcCoe Idealize.SL.Sem
open Cert.KernelIdeal.Weights (real fold real_zero real_one)
open Cert.Tables (start mel msk bin)

/-- A factor moves into a folded weight, because at most one of its terms is there. -/
theorem mul_fold (w : FVec Ideal S64x212x32 .f32) (k : Fin 64) (c : Fin 2) (o : Fin 32) (n : ℕ) (y : EReal) :
    y * fold w k c o n = ∑ i : Fin 106, if start k + i = n then y * (real (mel k i) * w (ix3 k ⟨i * 2 + c, by omega⟩ o)) else 0 := by
  rw [fold]
  by_cases h : ∃ i : Fin 106, start k + i = n
  · obtain ⟨i, rfl⟩ := h
    have ne : ∀ j : Fin 106, j ≠ i → ¬ start k + (j : ℕ) = start k + i := fun j hj e => hj (Fin.ext (by omega))
    rw [Finset.sum_eq_single i (fun j _ hj => if_neg (ne j hj)) fun h => absurd (Finset.mem_univ _) h,
      Finset.sum_eq_single i (fun j _ hj => if_neg (ne j hj)) fun h => absurd (Finset.mem_univ _) h, if_pos rfl, if_pos rfl]
  · have ne : ∀ j : Fin 106, ¬ start k + (j : ℕ) = n := fun j e => h ⟨j, e⟩
    rw [Finset.sum_eq_zero fun j _ => if_neg (ne j), Finset.sum_eq_zero fun j _ => if_neg (ne j), mul_zero]

/-- A folded weight in a column of tiles that the band's group leaves out is zero. -/
theorem fold_outside (w : FVec Ideal S64x212x32 .f32) (k : Fin 64) (c : Fin 2) (o : Fin 32) (j : Fin 8) (f : Fin 128)
    (h : ¬ (Tables.lo (k / 4) ≤ j ∧ (j : ℕ) ≤ Tables.hi (k / 4))) : fold w k c o (128 * j + f) = 0 := by
  refine Finset.sum_eq_zero fun i _ => ?_
  by_cases e : start k + i = 128 * j + f
  · rw [if_pos e]
    have hj : (start k + i) / 128 = j := by omega
    rcases Tables.mel_col k i with z | z | z
    · rw [z, real_zero, zero_mul]
    · omega
    · rw [hj] at z
      exact absurd z h
  · exact if_neg e

/-- One tile of a band's lane, with the weights named as folded weights. -/
theorem tile_fold (x0 : FVec Ideal S1x2x256x1025 .f32) (x1 : FVec Ideal S26x2x128x128 .f32) (w : FVec Ideal S64x212x32 .f32)
    (h1 : ∀ (p : Fin 26) (ch : Fin 2) (f l : Fin 128) (q : Fin 104), (p : ℕ) * 4 + l / 32 = q →
      x1 (ix4 p ch f l) = fold w (Tables.band q) ch ⟨l % 32, Nat.mod_lt _ (by decide)⟩ (128 * Tables.col (q / 4) + f))
    (o : Fin 32) (r : Fin 256) (k : Fin 64) (j : Fin 8) (hj : Tables.lo (k / 4) ≤ j ∧ (j : ℕ) ≤ Tables.hi (k / 4)) :
    Body.tile x0 x1 (Body.tileOf ⟨k / 4, by omega⟩ j) j r ⟨32 * (k % 4) + o, by omega⟩
      = ∑ c : Fin 2, ∑ f : Fin 128, x0 (ix4 0 c r ⟨128 * j + f, by omega⟩) * fold w k c o (128 * j + f) := by
  obtain ⟨h26, hg, hc⟩ := Tables.tile_of ⟨k / 4, by omega⟩ j hj.1 hj.2
  have hp : ((Body.tileOf ⟨k / 4, by omega⟩ j : Fin 26) : ℕ) = Tables.first (k / 4) + (j - Tables.lo (k / 4)) := Nat.mod_eq_of_lt h26
  refine Finset.sum_congr rfl fun c _ => Finset.sum_congr rfl fun f _ => congrArg (_ * ·) ?_
  simp only at h26 hg hc
  generalize Body.tileOf ⟨k / 4, by omega⟩ j = p at hp ⊢
  rw [← hp] at hg hc
  have hq : (p : ℕ) * 4 + (32 * (k % 4) + o : ℕ) / 32 = p * 4 + k % 4 := by omega
  refine (h1 p c f ⟨32 * (k % 4) + o, by omega⟩ ⟨p * 4 + k % 4, by omega⟩ hq).trans ?_
  have e4 : (p * 4 + k % 4 : ℕ) / 4 = p := by omega
  have eb : Tables.band ⟨p * 4 + k % 4, by omega⟩ = k := by
    refine Fin.ext ?_
    simp only [Tables.band, e4, hg]
    omega
  have eo : (⟨(32 * (k % 4) + o : ℕ) % 32, Nat.mod_lt _ (by decide)⟩ : Fin 32) = o := Fin.ext (by simp only; omega)
  rw [eb]
  simp only [e4, hc, eo]

/-- The tiles of a band's lane add up to the band's positions below the last bin. -/
theorem group_eq (x0 : FVec Ideal S1x2x256x1025 .f32) (x1 : FVec Ideal S26x2x128x128 .f32) (w : FVec Ideal S64x212x32 .f32)
    (h1 : ∀ (p : Fin 26) (ch : Fin 2) (f l : Fin 128) (q : Fin 104), (p : ℕ) * 4 + l / 32 = q →
      x1 (ix4 p ch f l) = fold w (Tables.band q) ch ⟨l % 32, Nat.mod_lt _ (by decide)⟩ (128 * Tables.col (q / 4) + f))
    (o : Fin 32) (r : Fin 256) (k : Fin 64) :
    Body.groupSum x0 x1 ⟨k / 4, by omega⟩ r ⟨32 * (k % 4) + o, by omega⟩
      = ∑ i : Fin 106, ∑ c : Fin 2, if h : start k + i < 1024 then
          x0 (ix4 0 c r ⟨start k + i, by omega⟩) * (real (mel k i) * w (ix3 k ⟨i * 2 + c, by omega⟩ o)) else 0 := by
  have hs : Body.groupSum x0 x1 ⟨k / 4, by omega⟩ r ⟨32 * (k % 4) + o, by omega⟩
      = ∑ j : Fin 8, ∑ c : Fin 2, ∑ f : Fin 128, x0 (ix4 0 c r ⟨128 * j + f, by omega⟩) * fold w k c o (128 * j + f) := by
    refine Finset.sum_congr rfl fun j _ => ?_
    by_cases hj : Tables.lo (k / 4) ≤ j ∧ (j : ℕ) ≤ Tables.hi (k / 4)
    · exact (if_pos hj).trans (tile_fold x0 x1 w h1 o r k j hj)
    · refine (if_neg hj).trans (Finset.sum_eq_zero fun c _ => Finset.sum_eq_zero fun f _ => ?_).symm
      rw [fold_outside w k c o j f hj, mul_zero]
  rw [hs, Finset.sum_comm, Finset.sum_comm (γ := Fin 106)]
  refine Finset.sum_congr rfl fun c _ => ?_
  have ht : ∑ j : Fin 8, ∑ f : Fin 128, x0 (ix4 0 c r ⟨128 * j + f, by omega⟩) * fold w k c o (128 * j + f)
      = ∑ n : Fin 1024, x0 (ix4 0 c r ⟨n, by omega⟩) * fold w k c o n := by
    rw [Fin.sum_univ_tiles 8 128 rfl]
    refine Finset.sum_congr rfl fun j _ => Finset.sum_congr rfl fun f _ => ?_
    simp only [Nat.mul_comm 128]
  rw [ht]
  simp only [mul_fold]
  rw [Finset.sum_comm]
  refine Finset.sum_congr rfl fun i _ => ?_
  by_cases h : start k + i < 1024
  · rw [dif_pos h, Finset.sum_eq_single (⟨start k + i, h⟩ : Fin 1024)
      (fun n _ hn => if_neg fun e => hn (Fin.ext e.symm)) fun h => absurd (Finset.mem_univ _) h, if_pos rfl]
  · rw [dif_neg h]
    exact Finset.sum_eq_zero fun n _ => if_neg (by omega)

/-- One term of the reference's contraction. -/
def term (x0 : FVec Ideal S1x2x256x1025 .f32) (w : FVec Ideal S64x212x32 .f32) (o : Fin 32) (r : Fin 256) (k : Fin 64)
    (i : Fin 106) (c : Fin 2) : EReal :=
  w (ix3 k ⟨i * 2 + c, by omega⟩ o) *
    (x0 (ix4 0 c r ⟨(bin k i).toNat, Nat.lt_succ_of_le (Tables.bin_le k i)⟩) * (real (mel k i) * real (msk k i)))

theorem term_zero (x0 : FVec Ideal S1x2x256x1025 .f32) (w : FVec Ideal S64x212x32 .f32) (o : Fin 32) (r : Fin 256) (k : Fin 64)
    (i : Fin 106) (c : Fin 2) (h : mel k i = 0#32) : term x0 w o r k i c = 0 := by
  rw [term, h, real_zero, zero_mul, mul_zero, mul_zero]

/-- Where the mel weight is not zero the position's bin is the band's start plus the position, and the mask is one. -/
theorem term_run (x0 : FVec Ideal S1x2x256x1025 .f32) (w : FVec Ideal S64x212x32 .f32) (o : Fin 32) (r : Fin 256) (k : Fin 64)
    (i : Fin 106) (c : Fin 2) (h : start k + i < 1025) :
    term x0 w o r k i c = x0 (ix4 0 c r ⟨start k + i, h⟩) * (real (mel k i) * w (ix3 k ⟨i * 2 + c, by omega⟩ o)) := by
  rcases Tables.mel_run k i with z | ⟨hm, hb⟩
  · rw [term_zero _ _ _ _ _ _ _ z, z, real_zero, zero_mul, mul_zero]
  · simp only [term, hm, hb, real_one, mul_one]
    rw [mul_left_comm, mul_comm (w _)]

/-- The separate last bin adds the positions that reach it. -/
theorem last_eq (x0 : FVec Ideal S1x2x256x1025 .f32) (x2 : FVec Ideal S2x1x128 .f32) (w : FVec Ideal S64x212x32 .f32)
    (h2 : ∀ (ch : Fin 2) (l : Fin 128), x2 (ix3 ch 0 l)
      = if 96 ≤ l.val then w (ix3 63 ⟨164 + ch, by omega⟩ ⟨l % 32, Nat.mod_lt _ (by decide)⟩) else 0)
    (o : Fin 32) (r : Fin 256) (k : Fin 64) :
    Body.lastTerm x0 x2 ⟨k / 4, by omega⟩ r ⟨32 * (k % 4) + o, by omega⟩
      = ∑ i : Fin 106, ∑ c : Fin 2, if start k + i < 1024 then 0 else term x0 w o r k i c := by
  rw [Finset.sum_comm, Body.lastTerm]
  by_cases hk : k = 63
  · subst hk
    refine (if_pos rfl).trans (Finset.sum_congr rfl fun c _ => ?_)
    rw [Finset.sum_eq_single (82 : Fin 106)]
    · obtain ⟨hs, hm⟩ := Tables.last_one
      rw [if_neg (by rw [hs]; decide), term_run _ _ _ _ _ _ _ (by rw [hs]; decide), hm, real_one, one_mul, h2]
      rw [if_pos (by simp only [Fin.val_ofNat]; omega)]
      have eo : (⟨(32 * (((63 : Fin 64) : ℕ) % 4) + o : ℕ) % 32, Nat.mod_lt _ (by decide)⟩ : Fin 32) = o :=
        Fin.ext (by simp only [Fin.val_ofNat]; omega)
      have eb : (⟨start 63 + ((82 : Fin 106) : ℕ), by rw [hs]; decide⟩ : Fin 1025) = 1024 := Fin.ext (congrArg (· + 82) hs)
      simp only [eo, eb]
      rfl
    · intro i _ hi
      by_cases h : start 63 + i < 1024
      · exact if_pos h
      · rw [if_neg h, term_zero]
        by_contra hm
        exact hi (Fin.ext (Tables.mel_last 63 i (by omega) hm).2)
    · exact fun h => absurd (Finset.mem_univ _) h
  · refine Eq.trans (b := 0) ?_ (Finset.sum_eq_zero fun c _ => Finset.sum_eq_zero fun i _ => ?_).symm
    · by_cases hg : (⟨k / 4, by omega⟩ : Fin 16) = 15
      · refine (if_pos hg).trans (Finset.sum_eq_zero fun c _ => ?_)
        have hg' : (k : ℕ) / 4 = 15 := congrArg Fin.val hg
        have hk' : (k : ℕ) ≠ 63 := fun e => hk (Fin.ext e)
        rw [h2, if_neg (by simp only; omega), mul_zero]
      · exact if_neg hg
    · by_cases h : start k + i < 1024
      · exact if_pos h
      · rw [if_neg h, term_zero]
        by_contra hm
        exact hk (Fin.ext (Tables.mel_last k i (by omega) hm).1)

/-- Tiles and last bin together are the reference's contraction. -/
theorem total (x0 : FVec Ideal S1x2x256x1025 .f32) (x1 : FVec Ideal S26x2x128x128 .f32) (x2 : FVec Ideal S2x1x128 .f32)
    (w : FVec Ideal S64x212x32 .f32)
    (h1 : ∀ (p : Fin 26) (ch : Fin 2) (f l : Fin 128) (q : Fin 104), (p : ℕ) * 4 + l / 32 = q →
      x1 (ix4 p ch f l) = fold w (Tables.band q) ch ⟨l % 32, Nat.mod_lt _ (by decide)⟩ (128 * Tables.col (q / 4) + f))
    (h2 : ∀ (ch : Fin 2) (l : Fin 128), x2 (ix3 ch 0 l)
      = if 96 ≤ l.val then w (ix3 63 ⟨164 + ch, by omega⟩ ⟨l % 32, Nat.mod_lt _ (by decide)⟩) else 0)
    (o : Fin 32) (r : Fin 256) (k : Fin 64) :
    Body.groupSum x0 x1 ⟨k / 4, by omega⟩ r ⟨32 * (k % 4) + o, by omega⟩
        + Body.lastTerm x0 x2 ⟨k / 4, by omega⟩ r ⟨32 * (k % 4) + o, by omega⟩
      = ∑ i : Fin 106, ∑ c : Fin 2, term x0 w o r k i c := by
  rw [group_eq x0 x1 w h1, last_eq x0 x2 w h2, ← Finset.sum_add_distrib]
  refine Finset.sum_congr rfl fun i _ => ?_
  rw [← Finset.sum_add_distrib]
  refine Finset.sum_congr rfl fun c _ => ?_
  by_cases h : start k + i < 1024
  · rw [dif_pos h, if_pos h, add_zero, term_run]
  · rw [dif_neg h, if_neg h, zero_add]

end Cert.KernelIdeal.Sum
-- ==== Proof.K.Reference.lean ====
module

public import proofs.«01_k».proof.Proof.Gen.ReferenceIdeal.Run
public import Idealize.ShloMosaic.Lib.Pipeline.ValueKit
public import Idealize.ShloMosaic.Lib.Pointwise
public import Idealize.ShloMosaic.Lib.ReduceAll
public import Idealize.ShloMosaic.Lib.Routing.OpsSet

/-! The reference's result, index by index: the gathered spectrum times mel weight and mask, contracted with the band's
weights, plus the bias. -/

@[expose] public section

noncomputable section

namespace Cert.ReferenceIdeal.Ref

open Cert.ReferenceIdeal Cert.ReferenceIdeal.Gen Idealize.ShloMosaic Idealize.ShloMosaic.TcCoe Idealize.SL.Sem

/-- The frequency bins as a column of start words: a negative one counts from the end. -/
def starts (idx : IVec S64x106 32) : IVec S6784x1 32 :=
  broadcastInDim S6784x1 ![0] bcast_S6784_S6784x1_0
    (select (cmpi .slt (shapeCast S6784 idx shapeCasts_S64x106_S6784) (broadcastInDim S6784 ![] bcast_S_S6784 (constantI S_ 32 0#32)))
      (addi (shapeCast S6784 idx shapeCasts_S64x106_S6784) (broadcastInDim S6784 ![] bcast_S_S6784 (constantI S_ 32 1025#32)))
      (shapeCast S6784 idx shapeCasts_S64x106_S6784))

/-- Which start words name a bin. -/
def inRange (i : IVec S6784x1 32) : IVec S6784 1 :=
  Host.reduce IntOp.andi
    (andi (cmpi .sge i (broadcastInDim S6784x1 ![] bcast_S_S6784x1 (constantI S_ 32 0#32)))
      (cmpi .sle i (broadcastInDim S6784x1 ![0, 1] bcast_S1x1_S6784x1_0_1 (broadcastInDim S1x1 ![1] bcast_S1_S1x1_1 (constantI S1 32 1024#32)))))
    (constantI S_ 1 1#1) reducesTo_S6784x1_S6784_d1 h_S_

/-- The spectrum taken at the start words, not-a-number where a word names no bin. -/
def taken (x : FVec Ideal S8x2x1024x1025 .f32) (i : IVec S6784x1 32) : FVec Ideal S8x2x1024x6784 .f32 :=
  select (broadcastInDim S8x2x1024x6784 ![3] bcast_S6784_S8x2x1024x6784_3 (inRange i))
    (Host.gather gather_S8x2x1024x1025_S6784x1_S8x2x1024x6784_012_3_n_n_3_1_8210241 x i)
    (broadcastInDim S8x2x1024x6784 ![] bcast_S_S8x2x1024x6784 (constant (F := Ideal) S_ .f32 0x7FC00000#32))

/-- What follows the take: the weighting, the contraction and the bias. -/
def finish (g : FVec Ideal S8x2x1024x6784 .f32) (w : FVec Ideal S64x212x32 .f32) (b : FVec Ideal S64x32 .f32)
    (mel mask : FVec Ideal S64x106 .f32) : FVec Ideal S8x32x1024x64 .f32 :=
  transpose S8x32x1024x64 [0, 3, 1, 2]
    (addf (F := Ideal)
      (transpose S8x1024x64x32 [2, 3, 0, 1]
        (Host.dotGeneral (F := Ideal) dot_S64x212x32_S8x1024x64x212_S64x32x8x1024_1_3_2_01_0_2 none w
          (shapeCast S8x1024x64x212
            (transpose S8x1024x64x106x2 [0, 2, 3, 4, 1]
              (shapeCast S8x2x1024x64x106
                (mulf (F := Ideal) g
                  (broadcastInDim S8x2x1024x6784 ![0, 1, 2, 3] bcast_S1x1x1x6784_S8x2x1024x6784_0_1_2_3
                    (broadcastInDim S1x1x1x6784 ![3] bcast_S6784_S1x1x1x6784_3
                      (mulf (F := Ideal) (shapeCast S6784 mel shapeCasts_S64x106_S6784) (shapeCast S6784 mask shapeCasts_S64x106_S6784)))))
                shapeCasts_S8x2x1024x6784_S8x2x1024x64x106)
              transposes_S8x2x1024x64x106_S8x1024x64x106x2_0_2_3_4_1)
            shapeCasts_S8x1024x64x106x2_S8x1024x64x212))
        transposes_S64x32x8x1024_S8x1024x64x32_2_3_0_1)
      (broadcastInDim S8x1024x64x32 ![0, 1, 2, 3] bcast_S1x1x64x32_S8x1024x64x32_0_1_2_3
        (broadcastInDim S1x1x64x32 ![2, 3] bcast_S64x32_S1x1x64x32_2_3 b)))
    transposes_S8x1024x64x32_S8x32x1024x64_0_3_1_2

/-- The reference's result of its arguments. -/
def out (x : FVec Ideal S8x2x1024x1025 .f32) (w : FVec Ideal S64x212x32 .f32) (b : FVec Ideal S64x32 .f32)
    (mel mask : FVec Ideal S64x106 .f32) (idx : IVec S64x106 32) : FVec Ideal S8x32x1024x64 .f32 :=
  finish (taken x (starts idx)) w b mel mask

/-- Every run of the reference ends with that result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

/-- A start word is its bin. -/
theorem starts_at (idx : IVec S64x106 32) (n : Fin 6784) (h : (idx (ix2 ⟨n / 106, by omega⟩ ⟨n % 106, by omega⟩)).toNat ≤ 1024) :
    starts idx (ix2 n 0) = idx (ix2 ⟨n / 106, by omega⟩ ⟨n % 106, by omega⟩) := by
  refine Eq.trans (b := Scalar.select (IntOp.cmpi .slt (idx (ix2 ⟨n / 106, by omega⟩ ⟨n % 106, by omega⟩)) 0#32)
    (IntOp.addi (idx (ix2 ⟨n / 106, by omega⟩ ⟨n % 106, by omega⟩)) 1025#32) (idx (ix2 ⟨n / 106, by omega⟩ ⟨n % 106, by omega⟩))) ?_ ?_
  · pointwise [starts]
  · exact Routing.wrap_of_lt _ _ (by omega)

/-- Words that are all bins are all in range. -/
theorem inRange_at (i : IVec S6784x1 32) (hi : ∀ n : Fin 6784, (i (ix2 n 0)).toNat ≤ 1024) (n : Fin 6784) : inRange i (ix1 n) = 1#1 := by
  refine Host.reduce_andi_one _ _ _ _ _ rfl fun j => ?_
  have hj : j = ix2 (j 0) 0 := by
    rw [eq_ix2 j]
    exact congrArg (ix2 (j 0)) (Subsingleton.elim (α := Fin 1) _ _)
  rw [hj]
  have h := hi (j 0)
  generalize j 0 = n at h ⊢
  refine (?_ : IntOp.andi (IntOp.cmpi .sge (i (ix2 n 0)) 0#32) (IntOp.cmpi .sle (i (ix2 n 0)) 1024#32) = 1#1)
  generalize i (ix2 n 0) = v at h ⊢
  have hv : v.toInt = v.toNat := BitVec.toInt_eq_toNat_of_lt (by omega)
  have h0 : (0#32).sle v = true := by
    rw [BitVec.sle_iff_toInt_le, hv]
    exact Int.natCast_nonneg _
  have h1 : v.sle 1024#32 = true := by
    rw [BitVec.sle_iff_toInt_le, hv]
    exact Int.ofNat_le.2 h
  simp only [IntOp.cmpi, h0, h1]
  rfl

/-- The gather reads the spectrum at the start word, read signed and kept within the bins. -/
theorem gather_at (x : FVec Ideal S8x2x1024x1025 .f32) (i : IVec S6784x1 32) (b : Fin 8) (c : Fin 2) (t : Fin 1024) (n : Fin 6784)
    (f : Fin 1025) (h : (i (ix2 n 0)).toNat = f) :
    Host.gather gather_S8x2x1024x1025_S6784x1_S8x2x1024x6784_012_3_n_n_3_1_8210241 x i (ix4 b c t n) = x (ix4 b c t f) := by
  refine congrArg x (funext fun a => Fin.ext ?_)
  match a with
  | ⟨0, _⟩ => exact (Nat.zero_add _)
  | ⟨1, _⟩ => exact (Nat.zero_add _)
  | ⟨2, _⟩ => exact (Nat.zero_add _)
  | ⟨3, _⟩ =>
    refine Eq.trans (b := min (i (ix2 n 0)).toInt.toNat 1024) ?_ ?_
    · refine congrArg (fun w => min (i w).toInt.toNat 1024 + 0 + 0) (?_ : GatherDims.siIdx
        gather_S8x2x1024x1025_S6784x1_S8x2x1024x6784_012_3_n_n_3_1_8210241 (ix4 b c t n) ⟨0, by decide⟩ = ix2 n 0)
      funext q
      match q with
      | ⟨0, _⟩ => rfl
      | ⟨1, _⟩ => rfl
    · have hf := f.isLt
      rw [BitVec.toInt_eq_toNat_of_lt (by omega), h]
      show min (f : ℕ) 1024 = f
      omega

/-- The taken spectrum, where every word is a bin. -/
theorem taken_at (x : FVec Ideal S8x2x1024x1025 .f32) (idx : IVec S64x106 32) (hi : ∀ k w, (idx (ix2 k w)).toNat ≤ 1024)
    (b : Fin 8) (c : Fin 2) (t : Fin 1024) (n : Fin 6784) (k : Fin 64) (w : Fin 106) (hn : (n : ℕ) = k * 106 + w) :
    taken x (starts idx) (ix4 b c t n) = x (ix4 b c t ⟨(idx (ix2 k w)).toNat, Nat.lt_succ_of_le (hi k w)⟩) := by
  have hk : (⟨n / 106, by omega⟩ : Fin 64) = k := Fin.ext (by simp only; omega)
  have hw : (⟨n % 106, by omega⟩ : Fin 106) = w := Fin.ext (by simp only; omega)
  have hs := starts_at idx n (hi _ _)
  rw [hk, hw] at hs
  have hr : inRange (starts idx) (ix1 n) = 1#1 :=
    inRange_at _ (fun q => by rw [starts_at idx q (hi _ _)]; exact hi _ _) n
  have hg := gather_at x (starts idx) b c t n ⟨(idx (ix2 k w)).toNat, Nat.lt_succ_of_le (hi k w)⟩ (by rw [hs])
  rw [← hg]
  refine Eq.trans (b := Scalar.select (inRange (starts idx) (ix1 n))
    (Host.gather gather_S8x2x1024x1025_S6784x1_S8x2x1024x6784_012_3_n_n_3_1_8210241 x (starts idx) (ix4 b c t n))
    (Ideal.ofBits .f32 0x7FC00000#32)) ?_ (by rw [hr]; rfl)
  pointwise [taken]

/-- The weighting, contraction and bias at one place. -/
theorem finish_at (g : FVec Ideal S8x2x1024x6784 .f32) (w : FVec Ideal S64x212x32 .f32) (b : FVec Ideal S64x32 .f32)
    (mel mask : FVec Ideal S64x106 .f32) (bb : Fin 8) (o : Fin 32) (t : Fin 1024) (k : Fin 64) :
    finish g w b mel mask (ix4 bb o t k) = (∑ i : Fin 212, w (ix3 k i o) * (g (ix4 bb ⟨i % 2, by omega⟩ t ⟨k * 106 + i / 2, by omega⟩) *
      (mel (ix2 k ⟨i / 2, by omega⟩) * mask (ix2 k ⟨i / 2, by omega⟩)))) + b (ix2 k o) := by
  have hm : ∀ i : Fin 212, (⟨(k * 106 + i / 2) % 106, Nat.mod_lt _ (by decide)⟩ : Fin 106) = ⟨i / 2, by omega⟩ :=
    fun i => Fin.ext (by simp only; omega)
  simp only [← hm]
  pointwise [finish]

/-- The reference's result at one place, where every word is a bin. -/
theorem out_at (x : FVec Ideal S8x2x1024x1025 .f32) (w : FVec Ideal S64x212x32 .f32) (b : FVec Ideal S64x32 .f32)
    (mel mask : FVec Ideal S64x106 .f32) (idx : IVec S64x106 32) (hi : ∀ k w, (idx (ix2 k w)).toNat ≤ 1024)
    (bb : Fin 8) (o : Fin 32) (t : Fin 1024) (k : Fin 64) :
    out x w b mel mask idx (ix4 bb o t k) = (∑ i : Fin 106, ∑ c : Fin 2, w (ix3 k ⟨i * 2 + c, by omega⟩ o) *
      (x (ix4 bb c t ⟨(idx (ix2 k i)).toNat, Nat.lt_succ_of_le (hi k i)⟩) * (mel (ix2 k i) * mask (ix2 k i)))) + b (ix2 k o) := by
  rw [out, finish_at, Fin.sum_univ_tiles 106 2 rfl]
  refine congrArg (· + b (ix2 k o)) (Finset.sum_congr rfl fun i _ => Finset.sum_congr rfl fun c _ => ?_)
  have h2 : (⟨(i * 2 + c : ℕ) / 2, by omega⟩ : Fin 106) = i := Fin.ext (by simp only; omega)
  have h1 : (⟨(i * 2 + c : ℕ) % 2, by omega⟩ : Fin 2) = c := Fin.ext (by simp only; omega)
  refine congrArg₂ (· * ·) rfl (congrArg₂ (· * ·) ?_ ?_)
  · exact (taken_at x idx hi bb _ t _ k i (by simp only; omega)).trans (by rw [h1])
  · exact congrArg (fun q => mel (ix2 k q) * mask (ix2 k q)) h2

end Cert.ReferenceIdeal.Ref
-- ==== Proof.K.Value.lean ====
module

public import proofs.«01_k».proof.Proof.K.Sum
public import proofs.«01_k».proof.Proof.K.Reference

/-! The kernel's result array is the reference's term of the arguments, its table arguments at their tables. -/

@[expose] public section

noncomputable section

namespace Cert.KernelIdeal.Final

open Cert.KernelIdeal Cert.KernelIdeal.Gen Idealize.ShloMosaic Idealize.ShloMosaic.TcCoe Idealize.SL.Sem
open Cert.KernelIdeal.Weights (real)

/-- The mel weights as an array. -/
def melArr : FVec Ideal S64x106 .f32 := fun j => real (Tables.mel (j 0) (j 1))

/-- The masks as an array. -/
def mskArr : FVec Ideal S64x106 .f32 := fun j => real (Tables.msk (j 0) (j 1))

/-- The frequency bins as an array. -/
def binArr : IVec S64x106 32 := fun j => Tables.bin (j 0) (j 1)

/-- The reference's term at one place, its tables at theirs. -/
theorem ref_at (x : FVec Ideal S8x2x1024x1025 .f32) (w : FVec Ideal S64x212x32 .f32) (b : FVec Ideal S64x32 .f32)
    (bb : Fin 8) (o : Fin 32) (t : Fin 1024) (k : Fin 64) :
    Cert.ReferenceIdeal.Ref.out x w b melArr mskArr binArr (ix4 bb o t k)
      = (∑ i : Fin 106, ∑ c : Fin 2, w (ix3 k ⟨i * 2 + c, by omega⟩ o) *
          (x (ix4 bb c t ⟨(Tables.bin k i).toNat, Nat.lt_succ_of_le (Tables.bin_le k i)⟩) *
            (real (Tables.mel k i) * real (Tables.msk k i)))) + b (ix2 k o) :=
  Cert.ReferenceIdeal.Ref.out_at x w b melArr mskArr binArr Tables.bin_le bb o t k

/-- The body's block at one place, over blocks that are read as the region reads them. -/
theorem block_at (x0 : FVec Ideal S1x2x256x1025 .f32) (x1 : FVec Ideal S26x2x128x128 .f32) (x2 : FVec Ideal S2x1x128 .f32)
    (x3 : FVec Ideal S1x2048 .f32) (x : FVec Ideal S8x2x1024x1025 .f32) (w : FVec Ideal S64x212x32 .f32) (b : FVec Ideal S64x32 .f32)
    (bb : Fin 8) (tt : Fin 4)
    (h0 : ∀ (ch : Fin 2) (r : Fin 256) (f : Fin 1025), x0 (ix4 0 ch r f) = x (ix4 bb ch ⟨tt * 256 + r, by omega⟩ f))
    (h1 : ∀ (p : Fin 26) (ch : Fin 2) (f l : Fin 128) (q : Fin 104), (p : ℕ) * 4 + l / 32 = q →
      x1 (ix4 p ch f l) = Weights.fold w (Tables.band q) ch ⟨l % 32, Nat.mod_lt _ (by decide)⟩ (128 * Tables.col (q / 4) + f))
    (h2 : ∀ (ch : Fin 2) (l : Fin 128), x2 (ix3 ch 0 l)
      = if 96 ≤ l.val then w (ix3 63 ⟨164 + ch, by omega⟩ ⟨l % 32, Nat.mod_lt _ (by decide)⟩) else 0)
    (h3 : ∀ (k : Fin 64) (o : Fin 32), x3 (ix2 0 ⟨k * 32 + o, by omega⟩) = b (ix2 k o))
    (o : Fin 32) (r : Fin 256) (k : Fin 64) :
    out0_4 (F := Ideal) x0 x1 x2 x3 (ix4 0 o r k)
      = Cert.ReferenceIdeal.Ref.out x w b melArr mskArr binArr (ix4 bb o ⟨tt * 256 + r, by omega⟩ k) := by
  rw [Body.out_at, Sum.total x0 x1 x2 w h1 h2, h3, ref_at]
  simp only [Sum.term, h0]

/-- The windows' index maps at a point: batch and row block for the spectrum and the result, the whole array for the rest. -/
theorem idx : ∀ t : Fin cfg0.N, win0_0.index t = ![(grid0.coords t 0).val, 0, (grid0.coords t 1).val, 0]
    ∧ win0_1.index t = ![0, 0, 0, 0] ∧ win0_2.index t = ![0, 0, 0] ∧ win0_3.index t = ![0, 0]
    ∧ win0_4.index t = ![(grid0.coords t 0).val, 0, (grid0.coords t 1).val, 0] :=
  (by decide +kernel : ∀ t : Fin grid0.N, _)

variable (m : (ℓ : Loc nD τ sig) → Buf (Elt Ideal) ℓ)

/-- What a point leaves in the result's block is the reference's term there. -/
theorem point (c : Dev nD) (t : Fin cfg0.N) (o : Fin 32) (r : Fin 256) (k : Fin 64) :
    out0_4 (F := Ideal) (iblk m c 0 t) (iblk m c 1 t) (iblk m c 2 t) (iblk m c 3 t) (ix4 0 o r k)
      = Cert.ReferenceIdeal.Ref.out (m ((c : Thread nD τ).loc main_arg0)) (m ((c : Thread nD τ).loc main_arg1))
          (m ((c : Thread nD τ).loc main_arg2)) melArr mskArr binArr
          (ix4 (grid0.coords t 0) o ⟨(grid0.coords t 1).val * 256 + r, by have := (grid0.coords t 1).isLt; have : (grid0.coords t 1).val < 4 := this; omega⟩ k) := by
  refine block_at _ _ _ _ _ _ _ (grid0.coords t 0) (grid0.coords t 1) ?_ ?_ ?_ ?_ o r k
  · intro ch r f
    blk_ext [iblk, V, idx t]
  · intro p ch f l q hq
    refine Eq.trans ?_ (Weights.wt_at m c p ch f l q hq)
    blk_ext [iblk, idx t]
  · intro ch l
    refine Eq.trans ?_ (Weights.wlast_at m c ch l)
    blk_ext [iblk, idx t]
  · intro k o
    refine Eq.trans ?_ (Weights.bias_at m c k o)
    blk_ext [iblk, idx t]

/-- The result array after the run. -/
theorem final (c : Dev nD) : (dats m 0 c).arrAt 4 cfg0.N
    = Cert.ReferenceIdeal.Ref.out (m ((c : Thread nD τ).loc main_arg0)) (m ((c : Thread nD τ).loc main_arg1))
        (m ((c : Thread nD τ).loc main_arg2)) melArr mskArr binArr := by
  refine (dats m 0 c).arrAt_eq_of_covers 4 _ (by decide +kernel) fun t _ y => ?_
  blk_simp
  rw [after0_4]
  have hy : y = (ix4 0 (y 1) (y 2) (y 3) : S1x32x256x64.Idx) := by
    blk_ext []
  refine (congrArg (out0_4 (F := Ideal) (iblk m c 0 t) (iblk m c 1 t) (iblk m c 2 t) (iblk m c 3 t)) hy).trans
    ((point m c t (y 1) (y 2) (y 3)).trans ?_)
  blk_ext [idx t]

end Cert.KernelIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.K.Value
public import Idealize.ShloMosaic.Lib.Quiescent
public import Idealize.ShloMosaic.Adequacy
public import Idealize.ShloMosaic.Init

/-! The certificate's claims put together: the frames, the idealization, and the equality of the kernel's and the
reference's results where the table arguments are the mel band tables. -/

@[expose] public section

noncomputable section

namespace Cert.Proof

open Idealize.ShloMosaic Idealize.ShloMosaic.TcCoe Idealize.SL.Sem

/-- One-bit words whose conjunction is one are both one. -/
theorem andi_one : ∀ a b : BitVec 1, IntOp.andi a b = 1#1 → a = 1#1 ∧ b = 1#1 := by decide

/-- On the extended reals an ordered equality test that succeeds is an equality. -/
theorem oeq_one (a b : Ideal .f32) (h : FloatOps.cmpf .oeq a b = 1#1) : a = b := by
  by_contra hne
  have h0 : Ideal.cmp .oeq a b = 0#1 := by simp only [Ideal.cmp, decide_eq_false hne, BitVec.ofBool_false]; rfl
  exact absurd (h0.symm.trans h) (by decide)

/-- The precondition says that the three table arguments are the tables. -/
theorem tables_of_pre (a0 : FVec Ideal Cert.Pre_band_tables.S8x2x1024x1025 .f32) (a1 : FVec Ideal Cert.Pre_band_tables.S64x212x32 .f32)
    (a2 : FVec Ideal Cert.Pre_band_tables.S64x32 .f32) (a3 a4 : FVec Ideal Cert.Pre_band_tables.S64x106 .f32)
    (a5 : IVec Cert.Pre_band_tables.S64x106 32) (h : Cert.Pre_band_tables.fn (F := Ideal) a0 a1 a2 a3 a4 a5 = fun _ => 1#1) :
    a3 = Cert.KernelIdeal.Final.melArr ∧ a4 = Cert.KernelIdeal.Final.mskArr ∧ a5 = Cert.KernelIdeal.Final.binArr := by
  have key : ∀ (k : Fin 64) (w : Fin 106), a3 (ix2 k w) = Cert.KernelIdeal.Final.melArr (ix2 k w)
      ∧ a4 (ix2 k w) = Cert.KernelIdeal.Final.mskArr (ix2 k w) ∧ a5 (ix2 k w) = Cert.KernelIdeal.Final.binArr (ix2 k w) := by
    intro k w
    have hr : Cert.Pre_band_tables.S64x106.rowMajor (ix2 k w) = (⟨k * 106 + w, by omega⟩ : Fin 6784) :=
      Fin.ext (Shape.rowMajor_val_two _)
    have e := congrFun h (ix2 k w)
    simp only [Cert.Pre_band_tables.fn, andi, cmpf, cmpi, hr] at e
    obtain ⟨h34, h5⟩ := andi_one _ _ e
    obtain ⟨h3, h4⟩ := andi_one _ _ h34
    exact ⟨oeq_one _ _ h3, oeq_one _ _ h4, StableHlo.Predicate.cmpi_eq_iff.1 h5⟩
  refine ⟨funext fun j => ?_, funext fun j => ?_, funext fun j => ?_⟩ <;> rw [eq_ix2 j]
  · exact (key _ _).1
  · exact (key _ _).2.1
  · exact (key _ _).2.2

/-- The reference leaves its arguments as they were and no semaphore counter raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Ref.run m ρ)

/-- Where the table arguments are the tables, the kernel's result and the reference's are one array. -/
theorem algebraic : Cert.algebraic_KernelIdeal_ReferenceIdeal_pre_band_tables (hKernelIdeal := Cert.KernelIdeal.Gen.facts)
    (hReferenceIdeal := Cert.ReferenceIdeal.Gen.facts) (hPre_band_tables := ⟨⟩) := by
  intro m ρ m' ρ' hpre hagree
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Ref.run m' ρ')
  obtain ⟨e0, e1, e2, e3, e4, e5⟩ := hagree c
  obtain ⟨t3, t4, t5⟩ := tables_of_pre _ _ _ _ _ _ (hpre c)
  refine Eq.trans ?_ (Cert.KernelIdeal.Final.final m c).symm
  rw [e0, e1, e2, e3, e4, e5, t3, t4, t5]

/-- The claims: the three frames, the kernel's idealization, and the equality of the two results. -/
theorem claim : Cert.Claim := ⟨Cert.Kernel.Gen.facts, Cert.KernelIdeal.Gen.facts, Cert.ReferenceIdeal.Gen.facts, ⟨⟩,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
